-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v81_3)) (v1 : (c : Dev Cert.Kernel5Ideal.nD) → Buf (Elt Ideal) ((c.tc : Thread Cert.Kernel5Ideal.nD Cert.Kernel5Ideal.τ).loc Cert.Kernel5Ideal.main_v81_4)) (v2 : (c : Dev Cert.Kernel5Ideal.nD) → Buf (Elt Ideal) ((c.tc : Thread Cert.Kernel5Ideal.nD Cert.Kernel5Ideal.τ).loc Cert.Kernel5Ideal.main_v81_5)) (v3 : (c : Dev Cert.Kernel5Ideal.nD) → Buf (Elt Ideal) ((c.tc : Thread Cert.Kernel5Ideal.nD Cert.Kernel5Ideal.τ).loc Cert.Kernel5Ideal.main_v81_6)) (v4 : (c : Dev Cert.Kernel5Ideal.nD) → Buf (Elt Ideal) ((c.tc : Thread Cert.Kernel5Ideal.nD Cert.Kernel5Ideal.τ).loc Cert.Kernel5Ideal.main_v81_7)) (v5 : (c : Dev Cert.Kernel5Ideal.nD) → Buf (Elt Ideal) ((c.tc : Thread Cert.Kernel5Ideal.nD Cert.Kernel5Ideal.τ).loc Cert.Kernel5Ideal.main_v81_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v81_3) = v0 c
          ∧ r.2.mem ((c.tc : Thread Cert.Kernel5Ideal.nD Cert.Kernel5Ideal.τ).loc Cert.Kernel5Ideal.main_v81_4) = v1 c
          ∧ r.2.mem ((c.tc : Thread Cert.Kernel5Ideal.nD Cert.Kernel5Ideal.τ).loc Cert.Kernel5Ideal.main_v81_5) = v2 c
          ∧ r.2.mem ((c.tc : Thread Cert.Kernel5Ideal.nD Cert.Kernel5Ideal.τ).loc Cert.Kernel5Ideal.main_v81_6) = v3 c
          ∧ r.2.mem ((c.tc : Thread Cert.Kernel5Ideal.nD Cert.Kernel5Ideal.τ).loc Cert.Kernel5Ideal.main_v81_7) = v4 c
          ∧ r.2.mem ((c.tc : Thread Cert.Kernel5Ideal.nD Cert.Kernel5Ideal.τ).loc Cert.Kernel5Ideal.main_v81_8) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v29) = v2 c
          ∧ r.2.mem ((c.tc : Thread Cert.Reference5Ideal.nD Cert.Reference5Ideal.τ).loc Cert.Reference5Ideal.main_v30) = v3 c
          ∧ r.2.mem ((c.tc : Thread Cert.Reference5Ideal.nD Cert.Reference5Ideal.τ).loc Cert.Reference5Ideal.main_v31) = v4 c
          ∧ r.2.mem ((c.tc : Thread Cert.Reference5Ideal.nD Cert.Reference5Ideal.τ).loc Cert.Reference5Ideal.main_v26) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "mask" .f32 0xF149F2CA#32 ⊥

def preserves_Kernel7_Kernel7Ideal : Prop :=
  True

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ preserves_Kernel7_Kernel7Ideal
-- ==== Kernel2.lean ====
abbrev S69632x1024 : Shape := ⟨2, ![69632, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x2816 : Shape := ⟨2, ![1024, 2816]⟩
abbrev S1024x1 : Shape := ⟨2, ![1024, 1]⟩
abbrev S1024x256 : Shape := ⟨2, ![1024, 256]⟩

abbrev nBuf : Space → Nat
  | .hbm => 10
  | .vmem => 9
  | .smem => 0
  | _ => 0

abbrev bufTy : (tb : Table) → Fin (tcTables nBuf tb) → BufTy
  | .hbm, ⟨0, _⟩ => ⟨S69632x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S69632x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S69632x1024 : Shape := ⟨2, ![69632, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S69632 : Shape := ⟨1, ![69632]⟩
abbrev S69632x1 : Shape := ⟨2, ![69632, 1]⟩
abbrev S1x1024 : Shape := ⟨2, ![1, 1024]⟩
abbrev S69632x5632 : Shape := ⟨2, ![69632, 5632]⟩
abbrev S69632x2816 : Shape := ⟨2, ![69632, 2816]⟩

abbrev nBuf : Space → Nat
  | .hbm => 39
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S69632x1024, .f32⟩
  | .hbm, ⟨6, _⟩ => ⟨S_, .f32⟩
  | .hbm, ⟨7, _⟩ => ⟨S69632, .f32⟩
  | .hbm, ⟨8, _⟩ => ⟨S69632x1, .f32⟩
  | .hbm, ⟨9, _⟩ => ⟨S_, .f32⟩
  | .hbm, ⟨10, _⟩ => ⟨S69632x1, .f32⟩
  | .hbm, ⟨11, _⟩ => ⟨S69632x1, .f32⟩
  | .hbm, ⟨12, _⟩ => ⟨S_, .f32⟩
  | .hbm, ⟨13, _⟩ => ⟨S69632x1, .f32⟩
  | .hbm, ⟨14, _⟩ => ⟨S69632x1, .f32⟩
  | .hbm, ⟨15, _⟩ => ⟨S69632x1, .f32⟩
  | .hbm, ⟨16, _⟩ => ⟨S69632x1024, .f32⟩
  | .hbm, ⟨17, _⟩ => ⟨S69632x1024, .f32⟩
  | .hbm, ⟨18, _⟩ => ⟨S1x1024, .f32⟩
  | .hbm, ⟨19, _⟩ => ⟨S69632x1024, .f32⟩
  | .hbm, ⟨20, _⟩ => ⟨S69632x1024, .f32⟩
  | .hbm, ⟨21, _⟩ => ⟨S69632x5632, .f32⟩
  | .hbm, ⟨22, _⟩ => ⟨S69632x2816, .f32⟩
  | .hbm, ⟨23, _⟩ => ⟨S69632x2816, .f32⟩
  | .hbm, ⟨24, _⟩ => ⟨S69632x2816, .f32⟩
  | .hbm, ⟨25, _⟩ => ⟨S69632x2816, .f32⟩
  | .hbm, ⟨26, _⟩ => ⟨S_, .f32⟩
  | .hbm, ⟨27, _⟩ => ⟨S69632x2816, .f32⟩
  | .hbm, ⟨28, _⟩ => ⟨S69632x2816, .f32⟩
  | .hbm, ⟨29, _⟩ => ⟨S_, .f32⟩
  | .hbm, ⟨30, _⟩ => ⟨S69632x2816, .f32⟩
  | .hbm, ⟨31, _⟩ => ⟨S69632x2816, .f32⟩
  | .hbm, ⟨32, _⟩ => ⟨S69632x2816, .f32⟩
  | .hbm, ⟨33, _⟩ => ⟨S69632x2816, .f32⟩
  | .hbm, ⟨34, _⟩ => ⟨S69632x1024, .f32⟩
  | .hbm, ⟨35, _⟩ => ⟨S_, .f32⟩
  | .hbm, ⟨36, _⟩ => ⟨S69632x1024, .f32⟩
  | .hbm, ⟨37, _⟩ => ⟨S69632x1024, .f32⟩
  | .hbm, ⟨38, _⟩ => ⟨S69632x1024, .f32⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel3.lean ====
abbrev S69632x1024 : Shape := ⟨2, ![69632, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S16x4352x1024 : Shape := ⟨3, ![16, 4352, 1024]⟩
abbrev S16x4096x1024 : Shape := ⟨3, ![16, 4096, 1024]⟩
abbrev S1x1024x1024 : Shape := ⟨3, ![1, 1024, 1024]⟩
abbrev S1024x2816 : Shape := ⟨2, ![1024, 2816]⟩
abbrev S1024x1024 : Shape := ⟨2, ![1024, 1024]⟩
abbrev S1024x1 : Shape := ⟨2, ![1024, 1]⟩
abbrev S1024x256 : Shape := ⟨2, ![1024, 256]⟩

abbrev nBuf : Space → Nat
  | .hbm => 11
  | .vmem => 9
  | .smem => 0
  | _ => 0

abbrev bufTy : (tb : Table) → Fin (tcTables nBuf tb) → BufTy
  | .hbm, ⟨0, _⟩ => ⟨S69632x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S16x4352x1024, .f32⟩
  | .hbm, ⟨10, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x2816, .bf16⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let c16_i32 : BitVec 32 := 16#32
  let arg1 : BitVec 32 := BitVec.ofNat 32 (i 1).val
  let c1024_i32 : BitVec 32 := 1024#32
  let v0 : BitVec 32 := Scalar.muli arg1 c1024_i32
  let v1 : BitVec 32 := Scalar.addi c16_i32 v0
  v1
def cc0_transform_0 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c16_i32 : BitVec 32 := 16#32
  let v1 : BitVec 32 := Scalar.addi c16_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S69632x1024 : Shape := ⟨2, ![69632, 1024]⟩
abbrev S1024 : Shape := ⟨1, ![1024]⟩
abbrev S1024x5632 : Shape := ⟨2, ![1024, 5632]⟩
abbrev S2816x1024 : Shape := ⟨2, ![2816, 1024]⟩
abbrev S16x4352x1024 : Shape := ⟨3, ![16, 4352, 1024]⟩
abbrev S_ : Shape := ⟨0, ![]⟩
abbrev S16x4352 : Shape := ⟨2, ![16, 4352]⟩
abbrev S16x4352x1 : Shape := ⟨3, ![16, 4352, 1]⟩
abbrev S1x1x1024 : Shape := ⟨3, ![1, 1, 1024]⟩
abbrev S16x4352x5632 : Shape := ⟨3, ![16, 4352, 5632]⟩
abbrev S16x4352x2816 : Shape := ⟨3, ![16, 4352, 2816]⟩
abbrev S16x4096x1024 : Shape := ⟨3, ![16, 4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16x4352x1024, .f32⟩
  | .hbm, ⟨6, _⟩ => ⟨S16x4352x1024, .f32⟩
  | .hbm, ⟨7, _⟩ => ⟨S_, .f32⟩
  | .hbm, ⟨8, _⟩ => ⟨S16x4352, .f32⟩
  | .hbm, ⟨9, _⟩ => ⟨S16x4352x1, .f32⟩
  | .hbm, ⟨10, _⟩ => ⟨S_, .f32⟩
  | .hbm, ⟨11, _⟩ => ⟨S16x4352x1, .f32⟩
  | .hbm, ⟨12, _⟩ => ⟨S16x4352x1, .f32⟩
  | .hbm, ⟨13, _⟩ => ⟨S_, .f32⟩
  | .hbm, ⟨14, _⟩ => ⟨S16x4352x1, .f32⟩
  | .hbm, ⟨15, _⟩ => ⟨S16x4352x1, .f32⟩
  | .hbm, ⟨16, _⟩ => ⟨S16x4352x1, .f32⟩
  | .hbm, ⟨17, _⟩ => ⟨S16x4352x1024, .f32⟩
  | .hbm, ⟨18, _⟩ => ⟨S16x4352x1024, .f32⟩
  | .hbm, ⟨19, _⟩ => ⟨S1x1x1024, .f32⟩
  | .hbm, ⟨20, _⟩ => ⟨S16x4352x1024, .f32⟩
  | .hbm, ⟨21, _⟩ => ⟨S16x4352x1024, .f32⟩
  | .hbm, ⟨22, _⟩ => ⟨S16x4352x5632, .f32⟩
  | .hbm, ⟨23, _⟩ => ⟨S16x4352x2816, .f32⟩
  | .hbm, ⟨24, _⟩ => ⟨S16x4352x2816, .f32⟩
  | .hbm, ⟨25, _⟩ => ⟨S16x4352x2816, .f32⟩
  | .hbm, ⟨26, _⟩ => ⟨S16x4352x2816, .f32⟩
  | .hbm, ⟨27, _⟩ => ⟨S_, .f32⟩
  | .hbm, ⟨28, _⟩ => ⟨S16x4352x2816, .f32⟩
  | .hbm, ⟨29, _⟩ => ⟨S16x4352x2816, .f32⟩
  | .hbm, ⟨30, _⟩ => ⟨S_, .f32⟩
  | .hbm, ⟨31, _⟩ => ⟨S16x4352x2816, .f32⟩
  | .hbm, ⟨32, _⟩ => ⟨S16x4352x2816, .f32⟩
  | .hbm, ⟨33, _⟩ => ⟨S16x4352x2816, .f32⟩
  | .hbm, ⟨34, _⟩ => ⟨S16x4352x2816, .f32⟩
  | .hbm, ⟨35, _⟩ => ⟨S16x4352x1024, .f32⟩
  | .hbm, ⟨36, _⟩ => ⟨S_, .f32⟩
  | .hbm, ⟨37, _⟩ => ⟨S16x4352x1024, .f32⟩
  | .hbm, ⟨38, _⟩ => ⟨S16x4352x1024, .f32⟩
  | .hbm, ⟨39, _⟩ => ⟨S16x4352x1024, .f32⟩
  | .hbm, ⟨40, _⟩ => ⟨S16x4352x1024, .f32⟩
  | .hbm, ⟨41, _⟩ => ⟨S_, .f32⟩
  | .hbm, ⟨42, _⟩ => ⟨S16x4352, .f32⟩
  | .hbm, ⟨43, _⟩ => ⟨S16x4352x1, .f32⟩
  | .hbm, ⟨44, _⟩ => ⟨S_, .f32⟩
  | .hbm, ⟨45, _⟩ => ⟨S16x4352x1, .f32⟩
  | .hbm, ⟨46, _⟩ => ⟨S16x4352x1, .f32⟩
  | .hbm, ⟨47, _⟩ => ⟨S_, .f32⟩
  | .hbm, ⟨48, _⟩ => ⟨S16x4352x1, .f32⟩
  | .hbm, ⟨49, _⟩ => ⟨S16x4352x1, .f32⟩
  | .hbm, ⟨50, _⟩ => ⟨S16x4352x1, .f32⟩
  | .hbm, ⟨51, _⟩ => ⟨S16x4352x1024, .f32⟩
  | .hbm, ⟨52, _⟩ => ⟨S16x4352x1024, .f32⟩
  | .hbm, ⟨53, _⟩ => ⟨S1x1x1024, .f32⟩
  | .hbm, ⟨54, _⟩ => ⟨S16x4352x1024, .f32⟩
  | .hbm, ⟨55, _⟩ => ⟨S16x4352x1024, .f32⟩
  | .hbm, ⟨56, _⟩ => ⟨S16x4096x1024, .f32⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel4.lean ====
abbrev S69632x1024 : Shape := ⟨2, ![69632, 1024]⟩
abbrev S69632x3072 : Shape := ⟨2, ![69632, 3072]⟩
abbrev S1024x1024 : Shape := ⟨2, ![1024, 1024]⟩
abbrev S1024x3072 : Shape := ⟨2, ![1024, 3072]⟩

abbrev nBuf : Space → Nat
  | .hbm => 14
  | .vmem => 16
  | .smem => 0
  | _ => 0

abbrev bufTy : (tb : Table) → Fin (tcTables nBuf tb) → BufTy
  | .hbm, ⟨0, _⟩ => ⟨S69632x1024, .f32⟩
  | .hbm, ⟨1, _⟩ => ⟨S69632x1024, .bf16⟩
  | .hbm, ⟨2, _⟩ => ⟨S69632x1024, .bf16⟩
  | .hbm, ⟨3, _⟩ => ⟨S69632x1024, .bf16⟩
  | .hbm, ⟨4, _⟩ => ⟨S69632x3072, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S69632x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x3072, .bf16⟩
  | .local _ .vmem, ⟨9, _⟩ => ⟨S1024x3072, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S69632x1024 : Shape := ⟨2, ![69632, 1024]⟩
abbrev S69632x3072 : Shape := ⟨2, ![69632, 3072]⟩
abbrev S1024x1024 : Shape := ⟨2, ![1024, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S69632x1024, .bf16⟩
  | .hbm, ⟨2, _⟩ => ⟨S69632x1024, .bf16⟩
  | .hbm, ⟨3, _⟩ => ⟨S69632x1024, .bf16⟩
  | .hbm, ⟨4, _⟩ => ⟨S69632x3072, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S69632x3072, .f32⟩
  | .hbm, ⟨10, _⟩ => ⟨S69632x3072, .f32⟩
  | .hbm, ⟨11, _⟩ => ⟨S69632x3072, .f32⟩
  | .hbm, ⟨12, _⟩ => ⟨S_, .f32⟩
  | .hbm, ⟨13, _⟩ => ⟨S69632x3072, .f32⟩
  | .hbm, ⟨14, _⟩ => ⟨S69632x3072, .f32⟩
  | .hbm, ⟨15, _⟩ => ⟨S_, .f32⟩
  | .hbm, ⟨16, _⟩ => ⟨S69632x3072, .f32⟩
  | .hbm, ⟨17, _⟩ => ⟨S69632x3072, .f32⟩
  | .hbm, ⟨18, _⟩ => ⟨S69632x1024, .f32⟩
  | .hbm, ⟨19, _⟩ => ⟨S69632x1024, .f32⟩
  | .hbm, ⟨20, _⟩ => ⟨S69632x1024, .f32⟩
  | .hbm, ⟨21, _⟩ => ⟨S69632x1024, .f32⟩
  | .hbm, ⟨22, _⟩ => ⟨S69632x1024, .f32⟩
  | .hbm, ⟨23, _⟩ => ⟨S69632x1024, .f32⟩
  | .hbm, ⟨24, _⟩ => ⟨S69632x1024, .f32⟩
  | .hbm, ⟨25, _⟩ => ⟨S69632x1024, .f32⟩
  | .hbm, ⟨26, _⟩ => ⟨S69632x1024, .f32⟩
  | .hbm, ⟨27, _⟩ => ⟨S69632x1024, .f32⟩
  | .hbm, ⟨28, _⟩ => ⟨S69632x1024, .f32⟩
  | .hbm, ⟨29, _⟩ => ⟨S69632x1024, .f32⟩
  | .hbm, ⟨30, _⟩ => ⟨S69632x1024, .f32⟩
  | .hbm, ⟨31, _⟩ => ⟨S69632x1024, .f32⟩
  | .hbm, ⟨32, _⟩ => ⟨S69632x1024, .f32⟩
  | .hbm, ⟨33, _⟩ => ⟨S69632x1024, .f32⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel5.lean ====
abbrev S69632x1024 : Shape := ⟨2, ![69632, 1024]⟩
abbrev S1024 : Shape := ⟨1, ![1024]⟩
abbrev S1024x10784 : Shape := ⟨2, ![1024, 10784]⟩
abbrev S16 : Shape := ⟨1, ![16]⟩
abbrev S1024x1024 : Shape := ⟨2, ![1024, 1024]⟩
abbrev S1024x16 : Shape := ⟨2, ![1024, 16]⟩
abbrev S1024x1536 : Shape := ⟨2, ![1024, 1536]⟩
abbrev S1024x3072 : Shape := ⟨2, ![1024, 3072]⟩
abbrev S_ : Shape := ⟨0, ![]⟩
abbrev S1024x96 : Shape := ⟨2, ![1024, 96]⟩
abbrev S1024x8832 : Shape := ⟨2, ![1024, 8832]⟩
abbrev S2048x1024 : Shape := ⟨2, ![2048, 1024]⟩
abbrev S1x1024 : Shape := ⟨2, ![1, 1024]⟩
abbrev S1x128 : Shape := ⟨2, ![1, 128]⟩
abbrev S1 : Shape := ⟨1, ![1]⟩
abbrev S2 : Shape := ⟨1, ![2]⟩
abbrev S128 : Shape := ⟨1, ![128]⟩
abbrev S128x1 : Shape := ⟨2, ![128, 1]⟩
abbrev S128x128 : Shape := ⟨2, ![128, 128]⟩
abbrev S128x256 : Shape := ⟨2, ![128, 256]⟩
abbrev S16x4352x1024 : Shape := ⟨3, ![16, 4352, 1024]⟩
abbrev S16x17x2048x256 : Shape := ⟨4, ![16, 17, 2048, 256]⟩
abbrev S16x4352x2048 : Shape := ⟨3, ![16, 4352, 2048]⟩
abbrev S16x17x1280x256 : Shape := ⟨4, ![16, 17, 1280, 256]⟩
abbrev S16x4352x1536 : Shape := ⟨3, ![16, 4352, 1536]⟩
abbrev S16x4352x3072 : Shape := ⟨3, ![16, 4352, 3072]⟩
abbrev S16x4352x128 : Shape := ⟨3, ![16, 4352, 128]⟩
abbrev S1x256x1024 : Shape := ⟨3, ![1, 256, 1024]⟩
abbrev S1x1x2048x256 : Shape := ⟨4, ![1, 1, 2048, 256]⟩
abbrev S1x256x2048 : Shape := ⟨3, ![1, 256, 2048]⟩
abbrev S1x1x1280x256 : Shape := ⟨4, ![1, 1, 1280, 256]⟩
abbrev S1x256x1536 : Shape := ⟨3, ![1, 256, 1536]⟩
abbrev S1x256x3072 : Shape := ⟨3, ![1, 256, 3072]⟩
abbrev S1x256x128 : Shape := ⟨3, ![1, 256, 128]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1024x128 : Shape := ⟨2, ![1024, 128]⟩
abbrev S256x128 : Shape := ⟨2, ![256, 128]⟩
abbrev S1024x512 : Shape := ⟨2, ![1024, 512]⟩
abbrev S256x512 : Shape := ⟨2, ![256, 512]⟩
abbrev S1x256x512 : Shape := ⟨3, ![1, 256, 512]⟩
abbrev S256x256 : Shape := ⟨2, ![256, 256]⟩
abbrev S1024x256 : Shape := ⟨2, ![1024, 256]⟩
abbrev S16x256 : Shape := ⟨2, ![16, 256]⟩
abbrev S8x256 : Shape := ⟨2, ![8, 256]⟩
abbrev S56x256 : Shape := ⟨2, ![56, 256]⟩
abbrev S64x256 : Shape := ⟨2, ![64, 256]⟩
abbrev S1x1x64x256 : Shape := ⟨4, ![1, 1, 64, 256]⟩
abbrev S1x1x16x256 : Shape := ⟨4, ![1, 1, 16, 256]⟩
abbrev S48x256 : Shape := ⟨2, ![48, 256]⟩
abbrev S40x256 : Shape := ⟨2, ![40, 256]⟩
abbrev S24x256 : Shape := ⟨2, ![24, 256]⟩
abbrev S32x256 : Shape := ⟨2, ![32, 256]⟩

abbrev nBuf : Space → Nat
  | .hbm => 207
  | .vmem => 26
  | .smem => 0
  | _ => 0

abbrev hbmTy0_0 (i : Nat) : BufTy := match i % 128 with
  | 0 => ⟨S69632x1024, .f32⟩
  | 1 => ⟨S1024, .f32⟩
  | 2 => ⟨S1024x10784, .f32⟩
  | 3 => ⟨S16, .f32⟩
  | 4 => ⟨S1024x1024, .f32⟩
  | 5 => ⟨S1024x1024, .f32⟩
  | 6 => ⟨S1024x1024, .f32⟩
  | 7 => ⟨S1024x16, .f32⟩
  | 8 => ⟨S1024x1024, .f32⟩
  | 9 => ⟨S1024x1536, .f32⟩
  | 10 => ⟨S1024x16, .f32⟩
  | 11 => ⟨S1024x1024, .f32⟩
  | 12 => ⟨S1024x1024, .f32⟩
  | 13 => ⟨S1024x3072, .f32⟩
  | 14 => ⟨S_, .f32⟩
  | 15 => ⟨S1024x96, .f32⟩
  | 16 => ⟨S1024x8832, .f32⟩
  | 17 => ⟨S1024x8832, .bf16⟩
  | 18 => ⟨S1024x1024, .f32⟩
  | 19 => ⟨S1024x1024, .f32⟩
  | 20 => ⟨S2048x1024, .f32⟩
  | 21 => ⟨S2048x1024, .bf16⟩
  | 22 => ⟨S1x1024, .f32⟩
  | 23 => ⟨S_, .f32⟩
  | 24 => ⟨S1x128, .f32⟩
  | 25 => ⟨S_, .i32⟩
  | 26 => ⟨S1, .i32⟩
  | 27 => ⟨S_, .i32⟩
  | 28 => ⟨S1, .i32⟩
  | 29 => ⟨S2, .i32⟩
  | 30 => ⟨S1x128, .f32⟩
  | 31 => ⟨S128, .i32⟩
  | 32 => ⟨S128x1, .i32⟩
  | 33 => ⟨S128, .i32⟩
  | 34 => ⟨S1x128, .i32⟩
  | 35 => ⟨S_, .i32⟩
  | 36 => ⟨S1x128, .i32⟩
  | 37 => ⟨S1x128, .i1⟩
  | 38 => ⟨S_, .i32⟩
  | 39 => ⟨S_, .i32⟩
  | 40 => ⟨S1x128, .i32⟩
  | 41 => ⟨S1x128, .i32⟩
  | 42 => ⟨S1x128, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S1x128, .i32⟩
  | 50 => ⟨S1x128, .i32⟩
  | 51 => ⟨S_, .i32⟩
  | 52 => ⟨S1x128, .i32⟩
  | 53 => ⟨S1x128, .i1⟩
  | 54 => ⟨S_, .i32⟩
  | 55 => ⟨S1x128, .i32⟩
  | 56 => ⟨S1x128, .i1⟩
  | 57 => ⟨S_, .i32⟩
  | 58 => ⟨S_, .i1⟩
  | 59 => ⟨S1x128, .i1⟩
  | 60 => ⟨S1x128, .i1⟩
  | 61 => ⟨S1x128, .i1⟩
  | 62 => ⟨S1x128, .i32⟩
  | 63 => ⟨S1x128, .i32⟩
  | 64 => ⟨S1x128, .i32⟩
  | 65 => ⟨S_, .i32⟩
  | 66 => ⟨S_, .i32⟩
  | 67 => ⟨S1x128, .i32⟩
  | 68 => ⟨S1x128, .i32⟩
  | 69 => ⟨S1x128, .i32⟩
  | 70 => ⟨S_, .i32⟩
  | 71 => ⟨S1x128, .i32⟩
  | 72 => ⟨S1x128, .i1⟩
  | 73 => ⟨S1x128, .i32⟩
  | 74 => ⟨S1x128, .i32⟩
  | 75 => ⟨S_, .i32⟩
  | 76 => ⟨S1x128, .i32⟩
  | 77 => ⟨S1x128, .i1⟩
  | 78 => ⟨S1x128, .i1⟩
  | 79 => ⟨S_, .i32⟩
  | 80 => ⟨S1x128, .i32⟩
  | 81 => ⟨S1x128, .i32⟩
  | 82 => ⟨S1x128, .i32⟩
  | 83 => ⟨S_, .i32⟩
  | 84 => ⟨S1x128, .i32⟩
  | 85 => ⟨S1x128, .i32⟩
  | 86 => ⟨S1x128, .i32⟩
  | 87 => ⟨S1x128, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S1x128, .i32⟩
  | 95 => ⟨S1x128, .i32⟩
  | 96 => ⟨S_, .i32⟩
  | 97 => ⟨S1x128, .i32⟩
  | 98 => ⟨S1x128, .i1⟩
  | 99 => ⟨S_, .i32⟩
  | 100 => ⟨S1x128, .i32⟩
  | 101 => ⟨S1x128, .i1⟩
  | 102 => ⟨S_, .i32⟩
  | 103 => ⟨S_, .i1⟩
  | 104 => ⟨S1x128, .i1⟩
  | 105 => ⟨S1x128, .i1⟩
  | 106 => ⟨S1x128, .i1⟩
  | 107 => ⟨S1x128, .i32⟩
  | 108 => ⟨S1x128, .i32⟩
  | 109 => ⟨S1x128, .i32⟩
  | 110 => ⟨S_, .i32⟩
  | 111 => ⟨S_, .i32⟩
  | 112 => ⟨S128x1, .i32⟩
  | 113 => ⟨S128x1, .i32⟩
  | 114 => ⟨S128x1, .i32⟩
  | 115 => ⟨S_, .i32⟩
  | 116 => ⟨S128x1, .i32⟩
  | 117 => ⟨S128x1, .i1⟩
  | 118 => ⟨S128x1, .i32⟩
  | 119 => ⟨S128x1, .i32⟩
  | 120 => ⟨S_, .i32⟩
  | 121 => ⟨S128x1, .i32⟩
  | 122 => ⟨S128x1, .i1⟩
  | 123 => ⟨S128x1, .i1⟩
  | 124 => ⟨S_, .i32⟩
  | 125 => ⟨S128x1, .i32⟩
  | 126 => ⟨S128x1, .i32⟩
  | 127 => ⟨S128x1, .i32⟩
  | _ => ⟨S69632x1024, .f32⟩

abbrev hbmTy0_1 (i : Nat) : BufTy := match i % 128 with
  | 0 => ⟨S_, .i32⟩
  | 1 => ⟨S128x1, .i32⟩
  | 2 => ⟨S128x1, .i1⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S128x1, .i32⟩
  | 10 => ⟨S128x1, .i32⟩
  | 11 => ⟨S_, .i32⟩
  | 12 => ⟨S128x1, .i32⟩
  | 13 => ⟨S128x1, .i1⟩
  | 14 => ⟨S_, .i32⟩
  | 15 => ⟨S128x1, .i32⟩
  | 16 => ⟨S128x1, .i1⟩
  | 17 => ⟨S_, .i32⟩
  | 18 => ⟨S_, .i1⟩
  | 19 => ⟨S128x1, .i1⟩
  | 20 => ⟨S128x1, .i1⟩
  | 21 => ⟨S128x1, .i1⟩
  | 22 => ⟨S128x1, .i32⟩
  | 23 => ⟨S128x1, .i32⟩
  | 24 => ⟨S128x1, .i32⟩
  | 25 => ⟨S128x128, .i32⟩
  | 26 => ⟨S128x128, .i32⟩
  | 27 => ⟨S128x128, .i1⟩
  | 28 => ⟨S128x128, .i1⟩
  | 29 => ⟨S128x128, .i1⟩
  | 30 => ⟨S_, .i32⟩
  | 31 => ⟨S128x1, .i32⟩
  | 32 => ⟨S128x1, .i1⟩
  | 33 => ⟨S_, .i32⟩
  | 34 => ⟨S1x128, .i32⟩
  | 35 => ⟨S1x128, .i1⟩
  | 36 => ⟨S128x128, .i1⟩
  | 37 => ⟨S128x128, .i1⟩
  | 38 => ⟨S128x128, .i1⟩
  | 39 => ⟨S128x128, .f32⟩
  | 40 => ⟨S_, .i32⟩
  | 41 => ⟨S128x1, .i32⟩
  | 42 => ⟨S128x1, .i32⟩
  | 43 => ⟨S128x128, .i32⟩
  | 44 => ⟨S128x128, .i32⟩
  | 45 => ⟨S128x128, .i1⟩
  | 46 => ⟨S128x128, .i1⟩
  | 47 => ⟨S128x128, .f32⟩
  | 48 => ⟨S128x128, .f32⟩
  | 49 => ⟨S128x128, .i32⟩
  | 50 => ⟨S128x128, .i32⟩
  | 51 => ⟨S128x128, .i1⟩
  | 52 => ⟨S128x128, .i1⟩
  | 53 => ⟨S128x128, .f32⟩
  | 54 => ⟨S_, .i32⟩
  | 55 => ⟨S1x128, .i32⟩
  | 56 => ⟨S1x128, .i1⟩
  | 57 => ⟨S128x128, .i1⟩
  | 58 => ⟨S128x128, .i1⟩
  | 59 => ⟨S128x128, .i1⟩
  | 60 => ⟨S_, .i32⟩
  | 61 => ⟨S1x128, .i32⟩
  | 62 => ⟨S1x128, .i1⟩
  | 63 => ⟨S128x128, .i1⟩
  | 64 => ⟨S128x128, .i1⟩
  | 65 => ⟨S128x128, .f32⟩
  | 66 => ⟨S128x128, .f32⟩
  | 67 => ⟨S128x256, .f32⟩
  | 68 => ⟨S128x256, .bf16⟩
  | 69 => ⟨S16x4352x1024, .f32⟩
  | 70 => ⟨S16x17x2048x256, .bf16⟩
  | 71 => ⟨S16x4352x2048, .bf16⟩
  | 72 => ⟨S16x17x1280x256, .bf16⟩
  | 73 => ⟨S16x4352x1024, .bf16⟩
  | 74 => ⟨S16x4352x1536, .bf16⟩
  | 75 => ⟨S16x4352x1024, .bf16⟩
  | 76 => ⟨S16x4352x1024, .bf16⟩
  | 77 => ⟨S16x4352x3072, .bf16⟩
  | 78 => ⟨S16x4352x128, .f32⟩
  | _ => ⟨S69632x1024, .f32⟩

abbrev hbmTy (i : Nat) : BufTy := match i / 128 with
  | 0 => hbmTy0_0 i
  | 1 => hbmTy0_1 i
  | _ => ⟨S69632x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x8832, .bf16⟩
  | .local _ .vmem, ⟨4, _⟩ => ⟨S2048x1024, .bf16⟩
  | .local _ .vmem, ⟨5, _⟩ => ⟨S1x128, .f32⟩
  | .local _ .vmem, ⟨6, _⟩ => ⟨S128x256, .bf16⟩
  | .local _ .vmem, ⟨7, _⟩ => ⟨S1x1x2048x256, .bf16⟩
  | .local _ .vmem, ⟨8, _⟩ => ⟨S1x1x2048x256, .bf16⟩
  | .local _ .vmem, ⟨9, _⟩ => ⟨S1x256x2048, .bf16⟩
  | .local _ .vmem, ⟨10, _⟩ => ⟨S1x256x2048, .bf16⟩
  | .local _ .vmem, ⟨11, _⟩ => ⟨S1x1x1280x256, .bf16⟩
  | .local _ .vmem, ⟨12, _⟩ => ⟨S1x1x1280x256, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1536, .bf16⟩
  | .local _ .vmem, ⟨16, _⟩ => ⟨S1x256x1536, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x3072, .bf16⟩
  | .local _ .vmem, ⟨22, _⟩ => ⟨S1x256x3072, .bf16⟩
  | .local _ .vmem, ⟨23, _⟩ => ⟨S1x256x128, .f32⟩
  | .local _ .vmem, ⟨24, _⟩ => ⟨S1x256x128, .f32⟩
  | .local _ .vmem, ⟨25, _⟩ => ⟨S8x128, .f32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_c_4 : Ref sig .tc := ⟨.hbm, 39, rfl⟩
abbrev main_call0_v0 : Ref sig .tc := ⟨.hbm, 40, rfl⟩
abbrev main_call0_v1 : Ref sig .tc := ⟨.hbm, 41, rfl⟩
abbrev main_v29 : Ref sig .tc := ⟨.hbm, 42, rfl⟩
abbrev main_c_5 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v30 : Ref sig .tc := ⟨.hbm, 64, rfl⟩
abbrev main_c_6 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_c : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_0 : Ref sig .tc := ⟨.hbm, 79, rfl⟩
abbrev main_call2_v12 : Ref sig .tc := ⟨.hbm, 80, rfl⟩
abbrev main_call2_v13 : Ref sig .tc := ⟨.hbm, 81, rfl⟩
abbrev main_v31 : Ref sig .tc := ⟨.hbm, 82, rfl⟩
abbrev main_c_7 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_c_8 : Ref sig .tc := ⟨.hbm, 88, rfl⟩
abbrev main_call3_v0 : Ref sig .tc := ⟨.hbm, 89, rfl⟩
abbrev main_call3_c : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_c_1 : Ref sig .tc := ⟨.hbm, 96, rfl⟩
abbrev main_call3_v5 : Ref sig .tc := ⟨.hbm, 97, rfl⟩
abbrev main_call3_v6 : Ref sig .tc := ⟨.hbm, 98, rfl⟩
abbrev main_call3_c_2 : Ref sig .tc := ⟨.hbm, 99, rfl⟩
abbrev main_call3_v7 : Ref sig .tc := ⟨.hbm, 100, rfl⟩
abbrev main_call3_v8 : Ref sig .tc := ⟨.hbm, 101, rfl⟩
abbrev main_call3_c_3 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_v36 : Ref sig .tc := ⟨.hbm, 109, rfl⟩
abbrev main_c_9 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_v5 : Ref sig .tc := ⟨.hbm, 116, rfl⟩
abbrev main_call4_v6 : Ref sig .tc := ⟨.hbm, 117, rfl⟩
abbrev main_call4_v7 : Ref sig .tc := ⟨.hbm, 118, rfl⟩
abbrev main_call4_v8 : Ref sig .tc := ⟨.hbm, 119, rfl⟩
abbrev main_call4_c : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_0 : Ref sig .tc := ⟨.hbm, 124, rfl⟩
abbrev main_call4_v12 : Ref sig .tc := ⟨.hbm, 125, rfl⟩
abbrev main_call4_v13 : Ref sig .tc := ⟨.hbm, 126, rfl⟩
abbrev main_v37 : Ref sig .tc := ⟨.hbm, 127, rfl⟩
abbrev main_c_10 : Ref sig .tc := ⟨.hbm, 128, rfl⟩
abbrev main_v38 : Ref sig .tc := ⟨.hbm, 129, rfl⟩
abbrev main_v39 : Ref sig .tc := ⟨.hbm, 130, rfl⟩
abbrev main_c_11 : Ref sig .tc := ⟨.hbm, 131, rfl⟩
abbrev main_call5_v0 : Ref sig .tc := ⟨.hbm, 132, rfl⟩
abbrev main_call5_c : Ref sig .tc := ⟨.hbm, 133, rfl⟩
abbrev main_call5_v1 : Ref sig .tc := ⟨.hbm, 134, rfl⟩
abbrev main_call5_c_0 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_c_1 : Ref sig .tc := ⟨.hbm, 139, rfl⟩
abbrev main_call5_v5 : Ref sig .tc := ⟨.hbm, 140, rfl⟩
abbrev main_call5_v6 : Ref sig .tc := ⟨.hbm, 141, rfl⟩
abbrev main_call5_c_2 : Ref sig .tc := ⟨.hbm, 142, rfl⟩
abbrev main_call5_v7 : Ref sig .tc := ⟨.hbm, 143, rfl⟩
abbrev main_call5_v8 : Ref sig .tc := ⟨.hbm, 144, rfl⟩
abbrev main_call5_c_3 : Ref sig .tc := ⟨.hbm, 145, rfl⟩
abbrev main_call5_v9 : Ref sig .tc := ⟨.hbm, 146, rfl⟩
abbrev main_call5_v10 : Ref sig .tc := ⟨.hbm, 147, rfl⟩
abbrev main_call5_v11 : Ref sig .tc := ⟨.hbm, 148, rfl⟩
abbrev main_call5_v12 : Ref sig .tc := ⟨.hbm, 149, rfl⟩
abbrev main_call5_v13 : Ref sig .tc := ⟨.hbm, 150, rfl⟩
abbrev main_call5_v14 : Ref sig .tc := ⟨.hbm, 151, rfl⟩
abbrev main_v40 : Ref sig .tc := ⟨.hbm, 152, rfl⟩
abbrev main_v41 : Ref sig .tc := ⟨.hbm, 153, rfl⟩
abbrev main_v42 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_c_12 : Ref sig .tc := ⟨.hbm, 158, rfl⟩
abbrev main_v46 : Ref sig .tc := ⟨.hbm, 159, rfl⟩
abbrev main_v47 : Ref sig .tc := ⟨.hbm, 160, rfl⟩
abbrev main_c_13 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_v52 : Ref sig .tc := ⟨.hbm, 166, rfl⟩
abbrev main_v53 : Ref sig .tc := ⟨.hbm, 167, rfl⟩
abbrev main_c_14 : Ref sig .tc := ⟨.hbm, 168, rfl⟩
abbrev main_v54 : Ref sig .tc := ⟨.hbm, 169, rfl⟩
abbrev main_v55 : Ref sig .tc := ⟨.hbm, 170, rfl⟩
abbrev main_v56 : Ref sig .tc := ⟨.hbm, 171, rfl⟩
abbrev main_v57 : Ref sig .tc := ⟨.hbm, 172, rfl⟩
abbrev main_v58 : Ref sig .tc := ⟨.hbm, 173, rfl⟩
abbrev main_v59 : Ref sig .tc := ⟨.hbm, 174, rfl⟩
abbrev main_v60 : Ref sig .tc := ⟨.hbm, 175, rfl⟩
abbrev main_v61 : Ref sig .tc := ⟨.hbm, 176, rfl⟩
abbrev main_v62 : Ref sig .tc := ⟨.hbm, 177, rfl⟩
abbrev main_v63 : Ref sig .tc := ⟨.hbm, 178, rfl⟩
abbrev main_v64 : Ref sig .tc := ⟨.hbm, 179, rfl⟩
abbrev main_v65 : Ref sig .tc := ⟨.hbm, 180, rfl⟩
abbrev main_v66 : Ref sig .tc := ⟨.hbm, 181, rfl⟩
abbrev main_c_15 : Ref sig .tc := ⟨.hbm, 182, rfl⟩
abbrev main_v67 : Ref sig .tc := ⟨.hbm, 183, rfl⟩
abbrev main_v68 : Ref sig .tc := ⟨.hbm, 184, rfl⟩
abbrev main_v69 : Ref sig .tc := ⟨.hbm, 185, rfl⟩
abbrev main_v70 : Ref sig .tc := ⟨.hbm, 186, rfl⟩
abbrev main_v71 : Ref sig .tc := ⟨.hbm, 187, rfl⟩
abbrev main_c_16 : Ref sig .tc := ⟨.hbm, 188, rfl⟩
abbrev main_v72 : Ref sig .tc := ⟨.hbm, 189, rfl⟩
abbrev main_v73 : Ref sig .tc := ⟨.hbm, 190, rfl⟩
abbrev main_v74 : Ref sig .tc := ⟨.hbm, 191, rfl⟩
abbrev main_v75 : Ref sig .tc := ⟨.hbm, 192, rfl⟩
abbrev main_v76 : Ref sig .tc := ⟨.hbm, 193, rfl⟩
abbrev main_v77 : Ref sig .tc := ⟨.hbm, 194, rfl⟩
abbrev main_v78 : Ref sig .tc := ⟨.hbm, 195, rfl⟩
abbrev main_v79 : Ref sig .tc := ⟨.hbm, 196, rfl⟩
abbrev main_v80 : Ref sig .tc := ⟨.hbm, 197, rfl⟩
abbrev main_v81_0 : Ref sig .tc := ⟨.hbm, 198, rfl⟩
abbrev main_v81_1 : Ref sig .tc := ⟨.hbm, 199, rfl⟩
abbrev main_v81_2 : Ref sig .tc := ⟨.hbm, 200, rfl⟩
abbrev main_v81_3 : Ref sig .tc := ⟨.hbm, 201, rfl⟩
abbrev main_v81_4 : Ref sig .tc := ⟨.hbm, 202, rfl⟩
abbrev main_v81_5 : Ref sig .tc := ⟨.hbm, 203, rfl⟩
abbrev main_v81_6 : Ref sig .tc := ⟨.hbm, 204, rfl⟩
abbrev main_v81_7 : Ref sig .tc := ⟨.hbm, 205, rfl⟩
abbrev main_v81_8 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![16, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x8832 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1280x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference5Ideal.lean ====
abbrev S69632x1024 : Shape := ⟨2, ![69632, 1024]⟩
abbrev S1024 : Shape := ⟨1, ![1024]⟩
abbrev S1024x10784 : Shape := ⟨2, ![1024, 10784]⟩
abbrev S16 : Shape := ⟨1, ![16]⟩
abbrev S_ : Shape := ⟨0, ![]⟩
abbrev S69632 : Shape := ⟨1, ![69632]⟩
abbrev S69632x1 : Shape := ⟨2, ![69632, 1]⟩
abbrev S1x1024 : Shape := ⟨2, ![1, 1024]⟩
abbrev S16x4352x1024 : Shape := ⟨3, ![16, 4352, 1024]⟩
abbrev S16x4352x10784 : Shape := ⟨3, ![16, 4352, 10784]⟩
abbrev S16x4352x16 : Shape := ⟨3, ![16, 4352, 16]⟩
abbrev S16x4352x1536 : Shape := ⟨3, ![16, 4352, 1536]⟩
abbrev S16x4352x3072 : Shape := ⟨3, ![16, 4352, 3072]⟩
abbrev S16x4352x32 : Shape := ⟨3, ![16, 4352, 32]⟩
abbrev S16x4352x128 : Shape := ⟨3, ![16, 4352, 128]⟩

abbrev nBuf : Space → Nat
  | .hbm => 41
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S1024, .f32⟩
  | .hbm, ⟨2, _⟩ => ⟨S1024x10784, .f32⟩
  | .hbm, ⟨3, _⟩ => ⟨S16, .f32⟩
  | .hbm, ⟨4, _⟩ => ⟨S69632x1024, .f32⟩
  | .hbm, ⟨5, _⟩ => ⟨S_, .f32⟩
  | .hbm, ⟨6, _⟩ => ⟨S69632, .f32⟩
  | .hbm, ⟨7, _⟩ => ⟨S69632x1, .f32⟩
  | .hbm, ⟨8, _⟩ => ⟨S_, .f32⟩
  | .hbm, ⟨9, _⟩ => ⟨S69632x1, .f32⟩
  | .hbm, ⟨10, _⟩ => ⟨S69632x1, .f32⟩
  | .hbm, ⟨11, _⟩ => ⟨S_, .f32⟩
  | .hbm, ⟨12, _⟩ => ⟨S69632x1, .f32⟩
  | .hbm, ⟨13, _⟩ => ⟨S69632x1, .f32⟩
  | .hbm, ⟨14, _⟩ => ⟨S69632x1, .f32⟩
  | .hbm, ⟨15, _⟩ => ⟨S69632x1024, .f32⟩
  | .hbm, ⟨16, _⟩ => ⟨S69632x1024, .f32⟩
  | .hbm, ⟨17, _⟩ => ⟨S1x1024, .f32⟩
  | .hbm, ⟨18, _⟩ => ⟨S69632x1024, .f32⟩
  | .hbm, ⟨19, _⟩ => ⟨S69632x1024, .f32⟩
  | .hbm, ⟨20, _⟩ => ⟨S16x4352x1024, .f32⟩
  | .hbm, ⟨21, _⟩ => ⟨S16x4352x10784, .f32⟩
  | .hbm, ⟨22, _⟩ => ⟨S16x4352x1024, .f32⟩
  | .hbm, ⟨23, _⟩ => ⟨S16x4352x1024, .f32⟩
  | .hbm, ⟨24, _⟩ => ⟨S16x4352x1024, .f32⟩
  | .hbm, ⟨25, _⟩ => ⟨S16x4352x16, .f32⟩
  | .hbm, ⟨26, _⟩ => ⟨S16x4352x1024, .f32⟩
  | .hbm, ⟨27, _⟩ => ⟨S16x4352x1536, .f32⟩
  | .hbm, ⟨28, _⟩ => ⟨S16x4352x16, .f32⟩
  | .hbm, ⟨29, _⟩ => ⟨S16x4352x1024, .f32⟩
  | .hbm, ⟨30, _⟩ => ⟨S16x4352x1024, .f32⟩
  | .hbm, ⟨31, _⟩ => ⟨S16x4352x3072, .f32⟩
  | .hbm, ⟨32, _⟩ => ⟨S16x4352x32, .f32⟩
  | .hbm, ⟨33, _⟩ => ⟨S_, .i32⟩
  | .hbm, ⟨34, _⟩ => ⟨S_, .f32⟩
  | .hbm, ⟨35, _⟩ => ⟨S16x4352x128, .f32⟩
  | .hbm, ⟨36, _⟩ => ⟨S16x4352x1024, .bf16⟩
  | .hbm, ⟨37, _⟩ => ⟨S16x4352x1536, .bf16⟩
  | .hbm, ⟨38, _⟩ => ⟨S16x4352x1024, .bf16⟩
  | .hbm, ⟨39, _⟩ => ⟨S16x4352x1024, .bf16⟩
  | .hbm, ⟨40, _⟩ => ⟨S16x4352x3072, .bf16⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_call0_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel6.lean ====
abbrev S16x17x2048x256 : Shape := ⟨4, ![16, 17, 2048, 256]⟩
abbrev S16x4352x2048 : Shape := ⟨3, ![16, 4352, 2048]⟩
abbrev S16x4352x1024 : Shape := ⟨3, ![16, 4352, 1024]⟩
abbrev S16x17x256x16x64 : Shape := ⟨5, ![16, 17, 256, 16, 64]⟩
abbrev S16x17x16x64x256 : Shape := ⟨5, ![16, 17, 16, 64, 256]⟩
abbrev S_ : Shape := ⟨0, ![]⟩
abbrev S16x17x16x16x256 : Shape := ⟨5, ![16, 17, 16, 16, 256]⟩
abbrev S16x17x16x80x256 : Shape := ⟨5, ![16, 17, 16, 80, 256]⟩
abbrev S16x17x1280x256 : Shape := ⟨4, ![16, 17, 1280, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1x2048x256 : Shape := ⟨4, ![1, 1, 2048, 256]⟩
abbrev S1x17x1280x256 : Shape := ⟨4, ![1, 17, 1280, 256]⟩
abbrev S1x256x1024 : Shape := ⟨3, ![1, 256, 1024]⟩
abbrev S4352x2048 : Shape := ⟨2, ![4352, 2048]⟩
abbrev S2 : Shape := ⟨1, ![2]⟩
abbrev S16x1x256 : Shape := ⟨3, ![16, 1, 256]⟩
abbrev S16x80x256 : Shape := ⟨3, ![16, 80, 256]⟩
abbrev S16x256x256 : Shape := ⟨3, ![16, 256, 256]⟩
abbrev S1 : Shape := ⟨1, ![1]⟩
abbrev S256x2048 : Shape := ⟨2, ![256, 2048]⟩
abbrev S1x256x2048 : Shape := ⟨3, ![1, 256, 2048]⟩
abbrev S256x128 : Shape := ⟨2, ![256, 128]⟩
abbrev S1x1x128x256 : Shape := ⟨4, ![1, 1, 128, 256]⟩
abbrev S128x256 : Shape := ⟨2, ![128, 256]⟩
abbrev S256x256 : Shape := ⟨2, ![256, 256]⟩
abbrev S1x256x256 : Shape := ⟨3, ![1, 256, 256]⟩
abbrev S1x1x80x256 : Shape := ⟨4, ![1, 1, 80, 256]⟩
abbrev S80x256 : Shape := ⟨2, ![80, 256]⟩
abbrev S1x1x256 : Shape := ⟨3, ![1, 1, 256]⟩
abbrev S1x256 : Shape := ⟨2, ![1, 256]⟩
abbrev S256 : Shape := ⟨1, ![256]⟩
abbrev S1x80x256 : Shape := ⟨3, ![1, 80, 256]⟩
abbrev S1x128x128 : Shape := ⟨3, ![1, 128, 128]⟩
abbrev S64x256 : Shape := ⟨2, ![64, 256]⟩
abbrev S1x256x128 : Shape := ⟨3, ![1, 256, 128]⟩

abbrev nBuf : Space → Nat
  | .hbm => 23
  | .vmem => 13
  | .smem => 0
  | _ => 0

abbrev bufTy : (tb : Table) → Fin (tcTables nBuf tb) → BufTy
  | .hbm, ⟨0, _⟩ => ⟨S16x17x2048x256, .bf16⟩
  | .hbm, ⟨1, _⟩ => ⟨S16x4352x2048, .bf16⟩
  | .hbm, ⟨2, _⟩ => ⟨S16x4352x1024, .bf16⟩
  | .hbm, ⟨3, _⟩ => ⟨S16x17x256x16x64, .bf16⟩
  | .hbm, ⟨4, _⟩ => ⟨S16x17x16x64x256, .bf16⟩
  | .hbm, ⟨5, _⟩ => ⟨S_, .bf16⟩
  | .hbm, ⟨6, _⟩ => ⟨S16x17x16x16x256, .bf16⟩
  | .hbm, ⟨7, _⟩ => ⟨S16x17x16x80x256, .bf16⟩
  | .hbm, ⟨8, _⟩ => ⟨S16x17x1280x256, .bf16⟩
  | .hbm, ⟨9, _⟩ => ⟨S128, .i32⟩
  | .hbm, ⟨10, _⟩ => ⟨S128x1, .i32⟩
  | .hbm, ⟨11, _⟩ => ⟨S128, .i32⟩
  | .hbm, ⟨12, _⟩ => ⟨S1x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .f32⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S16x4352x1024, .bf16⟩
  | .local _ .vmem, ⟨0, _⟩ => ⟨S1x1x2048x256, .bf16⟩
  | .local _ .vmem, ⟨1, _⟩ => ⟨S1x1x2048x256, .bf16⟩
  | .local _ .vmem, ⟨2, _⟩ => ⟨S1x1x2048x256, .bf16⟩
  | .local _ .vmem, ⟨3, _⟩ => ⟨S1x1x2048x256, .bf16⟩
  | .local _ .vmem, ⟨4, _⟩ => ⟨S1x17x1280x256, .bf16⟩
  | .local _ .vmem, ⟨5, _⟩ => ⟨S1x17x1280x256, .bf16⟩
  | .local _ .vmem, ⟨6, _⟩ => ⟨S128x128, .f32⟩
  | .local _ .vmem, ⟨7, _⟩ => ⟨S1x256x1024, .bf16⟩
  | .local _ .vmem, ⟨8, _⟩ => ⟨S1x256x1024, .bf16⟩
  | .local _ .vmem, ⟨9, _⟩ => ⟨S4352x2048, .bf16⟩
  | .local _ .vmem, ⟨10, _⟩ => ⟨S16x1x256, .f32⟩
  | .local _ .vmem, ⟨11, _⟩ => ⟨S16x80x256, .f32⟩
  | .local _ .vmem, ⟨12, _⟩ => ⟨S16x256x256, .f32⟩
  | _, _ => ⟨S16x17x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 1, 17], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_mult1 : BitVec 32 :=
  let c0_i32_669 : BitVec 32 := 0#32
  c0_i32_669
def k0_mult2 (i : grid0.Coords) : BitVec 32 :=
  let arg1 : BitVec 32 := BitVec.ofNat 32 (i 1).val
  let c16_i32 : BitVec 32 := 16#32
  let v923 : BitVec 32 := Scalar.muli arg1 c16_i32
  let c128_i32 : BitVec 32 := 128#32
  let v924 : BitVec 32 := Scalar.muli v923 c128_i32
  v924
def k0_off1 (i : grid0.Coords) : Fin 3 → Nat :=
  let arg0 : BitVec 32 := BitVec.ofNat 32 (i 0).val
  let c0_i32_669 : BitVec 32 := 0#32
  let v922 : BitVec 32 := c0_i32_669
  let arg1 : BitVec 32 := BitVec.ofNat 32 (i 1).val
  let c16_i32 : BitVec 32 := 16#32
  let v923 : BitVec 32 := Scalar.muli arg1 c16_i32
  let c128_i32 : BitVec 32 := 128#32
  let v924 : BitVec 32 := Scalar.muli v923 c128_i32
  let v925 : BitVec 32 := v924
  ![arg0.toNat, 0, v925.toNat]
def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def k0_mult3 (i : grid0.Coords) : BitVec 32 :=
  let arg2 : BitVec 32 := BitVec.ofNat 32 (i 2).val
  let c256_i32 : BitVec 32 := 256#32
  let v922 : BitVec 32 := Scalar.muli arg2 c256_i32
  v922
def k0_mult4 (i : grid0.Coords) : BitVec 32 :=
  let arg1 : BitVec 32 := BitVec.ofNat 32 (i 1).val
  let c16_i32 : BitVec 32 := 16#32
  let v924 : BitVec 32 := Scalar.muli arg1 c16_i32
  let c128_i32 : BitVec 32 := 128#32
  let v925 : BitVec 32 := Scalar.muli v924 c128_i32
  v925
def k0_off2 (i : grid0.Coords) : Fin 2 → Nat :=
  let arg2 : BitVec 32 := BitVec.ofNat 32 (i 2).val
  let c256_i32 : BitVec 32 := 256#32
  let v922 : BitVec 32 := Scalar.muli arg2 c256_i32
  let v923 : BitVec 32 := v922
  let c0_i32_670 : BitVec 32 := 0#32
  ![v923.toNat, 0]
def k0_off3 (i : grid0.Coords) : Fin 3 → Nat :=
  let arg0 : BitVec 32 := BitVec.ofNat 32 (i 0).val
  let arg2 : BitVec 32 := BitVec.ofNat 32 (i 2).val
  let c256_i32 : BitVec 32 := 256#32
  let v922 : BitVec 32 := Scalar.muli arg2 c256_i32
  let v923 : BitVec 32 := v922
  let arg1 : BitVec 32 := BitVec.ofNat 32 (i 1).val
  let c16_i32 : BitVec 32 := 16#32
  let v924 : BitVec 32 := Scalar.muli arg1 c16_i32
  let c128_i32 : BitVec 32 := 128#32
  let v925 : BitVec 32 := Scalar.muli v924 c128_i32
  let v926 : BitVec 32 := v925
  ![arg0.toNat, v923.toNat, v926.toNat]
def k0_cond3 (i : grid0.Coords) : BitVec 1 :=
  let arg2 : BitVec 32 := BitVec.ofNat 32 (i 2).val
  let c1_i32 : BitVec 32 := 1#32
  let v6 : BitVec 32 := Scalar.addi arg2 c1_i32
  let c17_i32 : BitVec 32 := 17#32
  let v7 : BitVec 1 := Scalar.cmpi .slt v6 c17_i32
  let v8 : BitVec 32 := Scalar.extui v7
  let c0_i32_3 : BitVec 32 := 0#32
  let v9 : BitVec 1 := Scalar.cmpi .ne v8 c0_i32_3
  v9

def k0_mult5 (i : grid0.Coords) : BitVec 32 :=
  let arg2 : BitVec 32 := BitVec.ofNat 32 (i 2).val
  let c1_i32_669 : BitVec 32 := 1#32
  let v922 : BitVec 32 := Scalar.addi arg2 c1_i32_669
  let c256_i32 : BitVec 32 := 256#32
  let v923 : BitVec 32 := Scalar.muli v922 c256_i32
  v923
def k0_mult6 (i : grid0.Coords) : BitVec 32 :=
  let arg1 : BitVec 32 := BitVec.ofNat 32 (i 1).val
  let c16_i32 : BitVec 32 := 16#32
  let v925 : BitVec 32 := Scalar.muli arg1 c16_i32
  let c128_i32 : BitVec 32 := 128#32
  let v926 : BitVec 32 := Scalar.muli v925 c128_i32
  v926
def k0_off4 (i : grid0.Coords) : Fin 2 → Nat :=
  let arg2 : BitVec 32 := BitVec.ofNat 32 (i 2).val
  let c1_i32_669 : BitVec 32 := 1#32
  let v922 : BitVec 32 := Scalar.addi arg2 c1_i32_669
  let c256_i32 : BitVec 32 := 256#32
  let v923 : BitVec 32 := Scalar.muli v922 c256_i32
  let v924 : BitVec 32 := v923
  let c0_i32_671 : BitVec 32 := 0#32
  ![v924.toNat, 0]
def k0_off5 (i : grid0.Coords) : Fin 3 → Nat :=
  let arg0 : BitVec 32 := BitVec.ofNat 32 (i 0).val
  let arg2 : BitVec 32 := BitVec.ofNat 32 (i 2).val
  let c1_i32_669 : BitVec 32 := 1#32
  let v922 : BitVec 32 := Scalar.addi arg2 c1_i32_669
  let c256_i32 : BitVec 32 := 256#32
  let v923 : BitVec 32 := Scalar.muli v922 c256_i32
  let v924 : BitVec 32 := v923
  let arg1 : BitVec 32 := BitVec.ofNat 32 (i 1).val
  let c16_i32 : BitVec 32 := 16#32
  let v925 : BitVec 32 := Scalar.muli arg1 c16_i32
  let c128_i32 : BitVec 32 := 128#32
  let v926 : BitVec 32 := Scalar.muli v925 c128_i32
  let v927 : BitVec 32 := v926
  ![arg0.toNat, v924.toNat, v927.toNat]
def k0_cond4 (i : grid0.Coords) : BitVec 1 :=
  let arg2 : BitVec 32 := BitVec.ofNat 32 (i 2).val
  let c0_i32_10 : BitVec 32 := 0#32
  let v18 : BitVec 1 := Scalar.cmpi .eq arg2 c0_i32_10
  let v19 : BitVec 32 := Scalar.extui v18
  let c0_i32_11 : BitVec 32 := 0#32
  let v20 : BitVec 1 := Scalar.cmpi .ne v19 c0_i32_11
  v20

def k0_mult7 : BitVec 32 :=
  let c0_i32_669 : BitVec 32 := 0#32
  c0_i32_669
def k0_mult8 : BitVec 32 :=
  let c0_i32_679 : BitVec 32 := 0#32
  c0_i32_679
def k0_mult9 : BitVec 32 :=
  let c0_i32_689 : BitVec 32 := 0#32
  c0_i32_689
def k0_mult10 : BitVec 32 :=
  let c0_i32_699 : BitVec 32 := 0#32
  c0_i32_699
def k0_mult11 : BitVec 32 :=
  let c0_i32_709 : BitVec 32 := 0#32
  c0_i32_709
def k0_mult12 : BitVec 32 :=
  let c0_i32_719 : BitVec 32 := 0#32
  c0_i32_719
def k0_mult13 : BitVec 32 :=
  let c0_i32_729 : BitVec 32 := 0#32
  c0_i32_729
def k0_mult14 : BitVec 32 :=
  let c0_i32_739 : BitVec 32 := 0#32
  c0_i32_739
def k0_mult15 : BitVec 32 :=
  let c0_i32_749 : BitVec 32 := 0#32
  c0_i32_749
def k0_mult16 : BitVec 32 :=
  let c0_i32_759 : BitVec 32 := 0#32
  c0_i32_759
def k0_mult17 : BitVec 32 :=
  let c0_i32_769 : BitVec 32 := 0#32
  c0_i32_769
def k0_mult18 : BitVec 32 :=
  let c0_i32_779 : BitVec 32 := 0#32
  c0_i32_779
def k0_mult19 : BitVec 32 :=
  let c0_i32_789 : BitVec 32 := 0#32
  c0_i32_789
def k0_mult20 : BitVec 32 :=
  let c0_i32_799 : BitVec 32 := 0#32
  c0_i32_799
def k0_mult21 : BitVec 32 :=
  let c0_i32_809 : BitVec 32 := 0#32
  c0_i32_809
def k0_mult22 : BitVec 32 :=
  let c0_i32_819 : BitVec 32 := 0#32
  c0_i32_819
@[reducible] def k0_t1_loop (i : grid0.Coords) : Scf.Loop 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_15 : BitVec 32 := 1#32
  ⟨c0_i32_13, v25, c1_i32_15⟩
def k0_mult23 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_669 : BitVec 32 := 1#32
  let v922 : BitVec 32 := Scalar.addi arg14 c1_i32_669
  let c256_i32 : BitVec 32 := 256#32
  let v923 : BitVec 32 := Scalar.muli v922 c256_i32
  v923
def k0_off6 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_669 : BitVec 32 := 1#32
  let v922 : BitVec 32 := Scalar.addi arg14 c1_i32_669
  let c256_i32 : BitVec 32 := 256#32
  let v923 : BitVec 32 := Scalar.muli v922 c256_i32
  let v924 : BitVec 32 := v923
  let v925 : Index := Scalar.indexCast v924
  let c0_670 : Index := 0#32
  ![v925.toNat, 0]
def k0_off7 (i : grid0.Coords) (k0_t1 : Fin (k0_t1_loop i).trips) : Fin 4 → Nat :=
  let c0_679 : Index := 0#32
  let c0_i32_13 : BitVec 32 := 0#32
  let c1_i32_15 : BitVec 32 := 1#32
  let arg14 : BitVec 32 := Scf.iv c0_i32_13 c1_i32_15 k0_t1
  let v932 : Index := Scalar.indexCast arg14
  let c0_680 : Index := 0#32
  let c0_681 : Index := 0#32
  ![0, v932.toNat, 0, 0]
def k0_mult24 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_699 : BitVec 32 := 1#32
  let v961 : BitVec 32 := Scalar.addi arg14 c1_i32_699
  let c256_i32_700 : BitVec 32 := 256#32
  let v962 : BitVec 32 := Scalar.muli v961 c256_i32_700
  v962
def k0_off8 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_699 : BitVec 32 := 1#32
  let v961 : BitVec 32 := Scalar.addi arg14 c1_i32_699
  let c256_i32_700 : BitVec 32 := 256#32
  let v962 : BitVec 32 := Scalar.muli v961 c256_i32_700
  let v963 : BitVec 32 := v962
  let v964 : Index := Scalar.indexCast v963
  let c128_701 : Index := 128#32
  ![v964.toNat, 128]
def k0_off9 (i : grid0.Coords) (k0_t1 : Fin (k0_t1_loop i).trips) : Fin 4 → Nat :=
  let c0_710 : Index := 0#32
  let c0_i32_13 : BitVec 32 := 0#32
  let c1_i32_15 : BitVec 32 := 1#32
  let arg14 : BitVec 32 := Scf.iv c0_i32_13 c1_i32_15 k0_t1
  let v971 : Index := Scalar.indexCast arg14
  let c80_711 : Index := 80#32
  let c0_712 : Index := 0#32
  ![0, v971.toNat, 80, 0]
def k0_mult25 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_730 : BitVec 32 := 1#32
  let v1000 : BitVec 32 := Scalar.addi arg14 c1_i32_730
  let c256_i32_731 : BitVec 32 := 256#32
  let v1001 : BitVec 32 := Scalar.muli v1000 c256_i32_731
  v1001
def k0_off10 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_730 : BitVec 32 := 1#32
  let v1000 : BitVec 32 := Scalar.addi arg14 c1_i32_730
  let c256_i32_731 : BitVec 32 := 256#32
  let v1001 : BitVec 32 := Scalar.muli v1000 c256_i32_731
  let v1002 : BitVec 32 := v1001
  let v1003 : Index := Scalar.indexCast v1002
  let c256_732 : Index := 256#32
  ![v1003.toNat, 256]
def k0_off11 (i : grid0.Coords) (k0_t1 : Fin (k0_t1_loop i).trips) : Fin 4 → Nat :=
  let c0_741 : Index := 0#32
  let c0_i32_13 : BitVec 32 := 0#32
  let c1_i32_15 : BitVec 32 := 1#32
  let arg14 : BitVec 32 := Scf.iv c0_i32_13 c1_i32_15 k0_t1
  let v1010 : Index := Scalar.indexCast arg14
  let c160_742 : Index := 160#32
  let c0_743 : Index := 0#32
  ![0, v1010.toNat, 160, 0]
def k0_mult26 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_761 : BitVec 32 := 1#32
  let v1039 : BitVec 32 := Scalar.addi arg14 c1_i32_761
  let c256_i32_762 : BitVec 32 := 256#32
  let v1040 : BitVec 32 := Scalar.muli v1039 c256_i32_762
  v1040
def k0_off12 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_761 : BitVec 32 := 1#32
  let v1039 : BitVec 32 := Scalar.addi arg14 c1_i32_761
  let c256_i32_762 : BitVec 32 := 256#32
  let v1040 : BitVec 32 := Scalar.muli v1039 c256_i32_762
  let v1041 : BitVec 32 := v1040
  let v1042 : Index := Scalar.indexCast v1041
  let c384_763 : Index := 384#32
  ![v1042.toNat, 384]
def k0_off13 (i : grid0.Coords) (k0_t1 : Fin (k0_t1_loop i).trips) : Fin 4 → Nat :=
  let c0_772 : Index := 0#32
  let c0_i32_13 : BitVec 32 := 0#32
  let c1_i32_15 : BitVec 32 := 1#32
  let arg14 : BitVec 32 := Scf.iv c0_i32_13 c1_i32_15 k0_t1
  let v1049 : Index := Scalar.indexCast arg14
  let c240_773 : Index := 240#32
  let c0_774 : Index := 0#32
  ![0, v1049.toNat, 240, 0]
def k0_mult27 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_792 : BitVec 32 := 1#32
  let v1078 : BitVec 32 := Scalar.addi arg14 c1_i32_792
  let c256_i32_793 : BitVec 32 := 256#32
  let v1079 : BitVec 32 := Scalar.muli v1078 c256_i32_793
  v1079
def k0_off14 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_792 : BitVec 32 := 1#32
  let v1078 : BitVec 32 := Scalar.addi arg14 c1_i32_792
  let c256_i32_793 : BitVec 32 := 256#32
  let v1079 : BitVec 32 := Scalar.muli v1078 c256_i32_793
  let v1080 : BitVec 32 := v1079
  let v1081 : Index := Scalar.indexCast v1080
  let c512_794 : Index := 512#32
  ![v1081.toNat, 512]
def k0_off15 (i : grid0.Coords) (k0_t1 : Fin (k0_t1_loop i).trips) : Fin 4 → Nat :=
  let c0_803 : Index := 0#32
  let c0_i32_13 : BitVec 32 := 0#32
  let c1_i32_15 : BitVec 32 := 1#32
  let arg14 : BitVec 32 := Scf.iv c0_i32_13 c1_i32_15 k0_t1
  let v1088 : Index := Scalar.indexCast arg14
  let c320_804 : Index := 320#32
  let c0_805 : Index := 0#32
  ![0, v1088.toNat, 320, 0]
def k0_mult28 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_823 : BitVec 32 := 1#32
  let v1117 : BitVec 32 := Scalar.addi arg14 c1_i32_823
  let c256_i32_824 : BitVec 32 := 256#32
  let v1118 : BitVec 32 := Scalar.muli v1117 c256_i32_824
  v1118
def k0_off16 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_823 : BitVec 32 := 1#32
  let v1117 : BitVec 32 := Scalar.addi arg14 c1_i32_823
  let c256_i32_824 : BitVec 32 := 256#32
  let v1118 : BitVec 32 := Scalar.muli v1117 c256_i32_824
  let v1119 : BitVec 32 := v1118
  let v1120 : Index := Scalar.indexCast v1119
  let c640_825 : Index := 640#32
  ![v1120.toNat, 640]
def k0_off17 (i : grid0.Coords) (k0_t1 : Fin (k0_t1_loop i).trips) : Fin 4 → Nat :=
  let c0_834 : Index := 0#32
  let c0_i32_13 : BitVec 32 := 0#32
  let c1_i32_15 : BitVec 32 := 1#32
  let arg14 : BitVec 32 := Scf.iv c0_i32_13 c1_i32_15 k0_t1
  let v1127 : Index := Scalar.indexCast arg14
  let c400_835 : Index := 400#32
  let c0_836 : Index := 0#32
  ![0, v1127.toNat, 400, 0]
def k0_mult29 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_854 : BitVec 32 := 1#32
  let v1156 : BitVec 32 := Scalar.addi arg14 c1_i32_854
  let c256_i32_855 : BitVec 32 := 256#32
  let v1157 : BitVec 32 := Scalar.muli v1156 c256_i32_855
  v1157
def k0_off18 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_854 : BitVec 32 := 1#32
  let v1156 : BitVec 32 := Scalar.addi arg14 c1_i32_854
  let c256_i32_855 : BitVec 32 := 256#32
  let v1157 : BitVec 32 := Scalar.muli v1156 c256_i32_855
  let v1158 : BitVec 32 := v1157
  let v1159 : Index := Scalar.indexCast v1158
  let c768_856 : Index := 768#32
  ![v1159.toNat, 768]
def k0_off19 (i : grid0.Coords) (k0_t1 : Fin (k0_t1_loop i).trips) : Fin 4 → Nat :=
  let c0_865 : Index := 0#32
  let c0_i32_13 : BitVec 32 := 0#32
  let c1_i32_15 : BitVec 32 := 1#32
  let arg14 : BitVec 32 := Scf.iv c0_i32_13 c1_i32_15 k0_t1
  let v1166 : Index := Scalar.indexCast arg14
  let c480_866 : Index := 480#32
  let c0_867 : Index := 0#32
  ![0, v1166.toNat, 480, 0]
def k0_mult30 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_885 : BitVec 32 := 1#32
  let v1195 : BitVec 32 := Scalar.addi arg14 c1_i32_885
  let c256_i32_886 : BitVec 32 := 256#32
  let v1196 : BitVec 32 := Scalar.muli v1195 c256_i32_886
  v1196
def k0_off20 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_885 : BitVec 32 := 1#32
  let v1195 : BitVec 32 := Scalar.addi arg14 c1_i32_885
  let c256_i32_886 : BitVec 32 := 256#32
  let v1196 : BitVec 32 := Scalar.muli v1195 c256_i32_886
  let v1197 : BitVec 32 := v1196
  let v1198 : Index := Scalar.indexCast v1197
  let c896_887 : Index := 896#32
  ![v1198.toNat, 896]
def k0_off21 (i : grid0.Coords) (k0_t1 : Fin (k0_t1_loop i).trips) : Fin 4 → Nat :=
  let c0_896 : Index := 0#32
  let c0_i32_13 : BitVec 32 := 0#32
  let c1_i32_15 : BitVec 32 := 1#32
  let arg14 : BitVec 32 := Scf.iv c0_i32_13 c1_i32_15 k0_t1
  let v1205 : Index := Scalar.indexCast arg14
  let c560_897 : Index := 560#32
  let c0_898 : Index := 0#32
  ![0, v1205.toNat, 560, 0]
def k0_mult31 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_916 : BitVec 32 := 1#32
  let v1234 : BitVec 32 := Scalar.addi arg14 c1_i32_916
  let c256_i32_917 : BitVec 32 := 256#32
  let v1235 : BitVec 32 := Scalar.muli v1234 c256_i32_917
  v1235
def k0_off22 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_916 : BitVec 32 := 1#32
  let v1234 : BitVec 32 := Scalar.addi arg14 c1_i32_916
  let c256_i32_917 : BitVec 32 := 256#32
  let v1235 : BitVec 32 := Scalar.muli v1234 c256_i32_917
  let v1236 : BitVec 32 := v1235
  let v1237 : Index := Scalar.indexCast v1236
  let c1024_918 : Index := 1024#32
  ![v1237.toNat, 1024]
def k0_off23 (i : grid0.Coords) (k0_t1 : Fin (k0_t1_loop i).trips) : Fin 4 → Nat :=
  let c0_927 : Index := 0#32
  let c0_i32_13 : BitVec 32 := 0#32
  let c1_i32_15 : BitVec 32 := 1#32
  let arg14 : BitVec 32 := Scf.iv c0_i32_13 c1_i32_15 k0_t1
  let v1244 : Index := Scalar.indexCast arg14
  let c640_928 : Index := 640#32
  let c0_929 : Index := 0#32
  ![0, v1244.toNat, 640, 0]
def k0_mult32 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_947 : BitVec 32 := 1#32
  let v1273 : BitVec 32 := Scalar.addi arg14 c1_i32_947
  let c256_i32_948 : BitVec 32 := 256#32
  let v1274 : BitVec 32 := Scalar.muli v1273 c256_i32_948
  v1274
def k0_off24 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_947 : BitVec 32 := 1#32
  let v1273 : BitVec 32 := Scalar.addi arg14 c1_i32_947
  let c256_i32_948 : BitVec 32 := 256#32
  let v1274 : BitVec 32 := Scalar.muli v1273 c256_i32_948
  let v1275 : BitVec 32 := v1274
  let v1276 : Index := Scalar.indexCast v1275
  let c1152_949 : Index := 1152#32
  ![v1276.toNat, 1152]
def k0_off25 (i : grid0.Coords) (k0_t1 : Fin (k0_t1_loop i).trips) : Fin 4 → Nat :=
  let c0_958 : Index := 0#32
  let c0_i32_13 : BitVec 32 := 0#32
  let c1_i32_15 : BitVec 32 := 1#32
  let arg14 : BitVec 32 := Scf.iv c0_i32_13 c1_i32_15 k0_t1
  let v1283 : Index := Scalar.indexCast arg14
  let c720_959 : Index := 720#32
  let c0_960 : Index := 0#32
  ![0, v1283.toNat, 720, 0]
def k0_mult33 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_978 : BitVec 32 := 1#32
  let v1312 : BitVec 32 := Scalar.addi arg14 c1_i32_978
  let c256_i32_979 : BitVec 32 := 256#32
  let v1313 : BitVec 32 := Scalar.muli v1312 c256_i32_979
  v1313
def k0_off26 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_978 : BitVec 32 := 1#32
  let v1312 : BitVec 32 := Scalar.addi arg14 c1_i32_978
  let c256_i32_979 : BitVec 32 := 256#32
  let v1313 : BitVec 32 := Scalar.muli v1312 c256_i32_979
  let v1314 : BitVec 32 := v1313
  let v1315 : Index := Scalar.indexCast v1314
  let c1280_980 : Index := 1280#32
  ![v1315.toNat, 1280]
def k0_off27 (i : grid0.Coords) (k0_t1 : Fin (k0_t1_loop i).trips) : Fin 4 → Nat :=
  let c0_989 : Index := 0#32
  let c0_i32_13 : BitVec 32 := 0#32
  let c1_i32_15 : BitVec 32 := 1#32
  let arg14 : BitVec 32 := Scf.iv c0_i32_13 c1_i32_15 k0_t1
  let v1322 : Index := Scalar.indexCast arg14
  let c800_990 : Index := 800#32
  let c0_991 : Index := 0#32
  ![0, v1322.toNat, 800, 0]
def k0_mult34 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_1009 : BitVec 32 := 1#32
  let v1351 : BitVec 32 := Scalar.addi arg14 c1_i32_1009
  let c256_i32_1010 : BitVec 32 := 256#32
  let v1352 : BitVec 32 := Scalar.muli v1351 c256_i32_1010
  v1352
def k0_off28 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_1009 : BitVec 32 := 1#32
  let v1351 : BitVec 32 := Scalar.addi arg14 c1_i32_1009
  let c256_i32_1010 : BitVec 32 := 256#32
  let v1352 : BitVec 32 := Scalar.muli v1351 c256_i32_1010
  let v1353 : BitVec 32 := v1352
  let v1354 : Index := Scalar.indexCast v1353
  let c1408_1011 : Index := 1408#32
  ![v1354.toNat, 1408]
def k0_off29 (i : grid0.Coords) (k0_t1 : Fin (k0_t1_loop i).trips) : Fin 4 → Nat :=
  let c0_1020 : Index := 0#32
  let c0_i32_13 : BitVec 32 := 0#32
  let c1_i32_15 : BitVec 32 := 1#32
  let arg14 : BitVec 32 := Scf.iv c0_i32_13 c1_i32_15 k0_t1
  let v1361 : Index := Scalar.indexCast arg14
  let c880_1021 : Index := 880#32
  let c0_1022 : Index := 0#32
  ![0, v1361.toNat, 880, 0]
def k0_mult35 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_1040 : BitVec 32 := 1#32
  let v1390 : BitVec 32 := Scalar.addi arg14 c1_i32_1040
  let c256_i32_1041 : BitVec 32 := 256#32
  let v1391 : BitVec 32 := Scalar.muli v1390 c256_i32_1041
  v1391
def k0_off30 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_1040 : BitVec 32 := 1#32
  let v1390 : BitVec 32 := Scalar.addi arg14 c1_i32_1040
  let c256_i32_1041 : BitVec 32 := 256#32
  let v1391 : BitVec 32 := Scalar.muli v1390 c256_i32_1041
  let v1392 : BitVec 32 := v1391
  let v1393 : Index := Scalar.indexCast v1392
  let c1536_1042 : Index := 1536#32
  ![v1393.toNat, 1536]
def k0_off31 (i : grid0.Coords) (k0_t1 : Fin (k0_t1_loop i).trips) : Fin 4 → Nat :=
  let c0_1051 : Index := 0#32
  let c0_i32_13 : BitVec 32 := 0#32
  let c1_i32_15 : BitVec 32 := 1#32
  let arg14 : BitVec 32 := Scf.iv c0_i32_13 c1_i32_15 k0_t1
  let v1400 : Index := Scalar.indexCast arg14
  let c960_1052 : Index := 960#32
  let c0_1053 : Index := 0#32
  ![0, v1400.toNat, 960, 0]
def k0_mult36 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_1071 : BitVec 32 := 1#32
  let v1429 : BitVec 32 := Scalar.addi arg14 c1_i32_1071
  let c256_i32_1072 : BitVec 32 := 256#32
  let v1430 : BitVec 32 := Scalar.muli v1429 c256_i32_1072
  v1430
def k0_off32 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_1071 : BitVec 32 := 1#32
  let v1429 : BitVec 32 := Scalar.addi arg14 c1_i32_1071
  let c256_i32_1072 : BitVec 32 := 256#32
  let v1430 : BitVec 32 := Scalar.muli v1429 c256_i32_1072
  let v1431 : BitVec 32 := v1430
  let v1432 : Index := Scalar.indexCast v1431
  let c1664_1073 : Index := 1664#32
  ![v1432.toNat, 1664]
def k0_off33 (i : grid0.Coords) (k0_t1 : Fin (k0_t1_loop i).trips) : Fin 4 → Nat :=
  let c0_1082 : Index := 0#32
  let c0_i32_13 : BitVec 32 := 0#32
  let c1_i32_15 : BitVec 32 := 1#32
  let arg14 : BitVec 32 := Scf.iv c0_i32_13 c1_i32_15 k0_t1
  let v1439 : Index := Scalar.indexCast arg14
  let c1040_1083 : Index := 1040#32
  let c0_1084 : Index := 0#32
  ![0, v1439.toNat, 1040, 0]
def k0_mult37 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_1102 : BitVec 32 := 1#32
  let v1468 : BitVec 32 := Scalar.addi arg14 c1_i32_1102
  let c256_i32_1103 : BitVec 32 := 256#32
  let v1469 : BitVec 32 := Scalar.muli v1468 c256_i32_1103
  v1469
def k0_off34 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_1102 : BitVec 32 := 1#32
  let v1468 : BitVec 32 := Scalar.addi arg14 c1_i32_1102
  let c256_i32_1103 : BitVec 32 := 256#32
  let v1469 : BitVec 32 := Scalar.muli v1468 c256_i32_1103
  let v1470 : BitVec 32 := v1469
  let v1471 : Index := Scalar.indexCast v1470
  let c1792_1104 : Index := 1792#32
  ![v1471.toNat, 1792]
def k0_off35 (i : grid0.Coords) (k0_t1 : Fin (k0_t1_loop i).trips) : Fin 4 → Nat :=
  let c0_1113 : Index := 0#32
  let c0_i32_13 : BitVec 32 := 0#32
  let c1_i32_15 : BitVec 32 := 1#32
  let arg14 : BitVec 32 := Scf.iv c0_i32_13 c1_i32_15 k0_t1
  let v1478 : Index := Scalar.indexCast arg14
  let c1120_1114 : Index := 1120#32
  let c0_1115 : Index := 0#32
  ![0, v1478.toNat, 1120, 0]
def k0_mult38 (i : grid0.Coords) (k0_t1 : Fin (k0_t1_loop i).trips) : BitVec 32 :=
  let c0_i32_13 : BitVec 32 := 0#32
  let c1_i32_15 : BitVec 32 := 1#32
  let arg14 : BitVec 32 := Scf.iv c0_i32_13 c1_i32_15 k0_t1
  let c1_i32_1133 : BitVec 32 := 1#32
  let v1507 : BitVec 32 := Scalar.addi arg14 c1_i32_1133
  let c256_i32_1134 : BitVec 32 := 256#32
  let v1508 : BitVec 32 := Scalar.muli v1507 c256_i32_1134
  v1508
def k0_off36 (i : grid0.Coords) (k0_t1 : Fin (k0_t1_loop i).trips) : Fin 2 → Nat :=
  let c0_i32_13 : BitVec 32 := 0#32
  let c1_i32_15 : BitVec 32 := 1#32
  let arg14 : BitVec 32 := Scf.iv c0_i32_13 c1_i32_15 k0_t1
  let c1_i32_1133 : BitVec 32 := 1#32
  let v1507 : BitVec 32 := Scalar.addi arg14 c1_i32_1133
  let c256_i32_1134 : BitVec 32 := 256#32
  let v1508 : BitVec 32 := Scalar.muli v1507 c256_i32_1134
  let v1509 : BitVec 32 := v1508
  let v1510 : Index := Scalar.indexCast v1509
  let c1920_1135 : Index := 1920#32
  ![v1510.toNat, 1920]
def k0_off37 (i : grid0.Coords) (k0_t1 : Fin (k0_t1_loop i).trips) : Fin 4 → Nat :=
  let c0_1144 : Index := 0#32
  let c0_i32_13 : BitVec 32 := 0#32
  let c1_i32_15 : BitVec 32 := 1#32
  let arg14 : BitVec 32 := Scf.iv c0_i32_13 c1_i32_15 k0_t1
  let v1517 : Index := Scalar.indexCast arg14
  let c1200_1145 : Index := 1200#32
  let c0_1146 : Index := 0#32
  ![0, v1517.toNat, 1200, 0]
@[reducible] def k0_t2_loop (i : grid0.Coords) : Scf.Loop 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let v22 : BitVec 32 := Scalar.addi c0_i32_13 v21
  let c1_i32_16 : BitVec 32 := 1#32
  ⟨v25, v22, c1_i32_16⟩
def k0_mult39 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_669 : BitVec 32 := 1#32
  let v922 : BitVec 32 := Scalar.addi arg14 c1_i32_669
  let c256_i32 : BitVec 32 := 256#32
  let v923 : BitVec 32 := Scalar.muli v922 c256_i32
  v923
def k0_off38 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_669 : BitVec 32 := 1#32
  let v922 : BitVec 32 := Scalar.addi arg14 c1_i32_669
  let c256_i32 : BitVec 32 := 256#32
  let v923 : BitVec 32 := Scalar.muli v922 c256_i32
  let v924 : BitVec 32 := v923
  let v925 : Index := Scalar.indexCast v924
  let c0_670 : Index := 0#32
  ![v925.toNat, 0]
def k0_off39 (i : grid0.Coords) (k0_t2 : Fin (k0_t2_loop i).trips) : Fin 4 → Nat :=
  let c0_679 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v932 : Index := Scalar.indexCast arg14
  let c0_680 : Index := 0#32
  let c0_681 : Index := 0#32
  ![0, v932.toNat, 0, 0]
def k0_mult40 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_699 : BitVec 32 := 1#32
  let v961 : BitVec 32 := Scalar.addi arg14 c1_i32_699
  let c256_i32_700 : BitVec 32 := 256#32
  let v962 : BitVec 32 := Scalar.muli v961 c256_i32_700
  v962
def k0_off40 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_699 : BitVec 32 := 1#32
  let v961 : BitVec 32 := Scalar.addi arg14 c1_i32_699
  let c256_i32_700 : BitVec 32 := 256#32
  let v962 : BitVec 32 := Scalar.muli v961 c256_i32_700
  let v963 : BitVec 32 := v962
  let v964 : Index := Scalar.indexCast v963
  let c128_701 : Index := 128#32
  ![v964.toNat, 128]
def k0_off41 (i : grid0.Coords) (k0_t2 : Fin (k0_t2_loop i).trips) : Fin 4 → Nat :=
  let c0_710 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v971 : Index := Scalar.indexCast arg14
  let c80_711 : Index := 80#32
  let c0_712 : Index := 0#32
  ![0, v971.toNat, 80, 0]
def k0_mult41 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_730 : BitVec 32 := 1#32
  let v1000 : BitVec 32 := Scalar.addi arg14 c1_i32_730
  let c256_i32_731 : BitVec 32 := 256#32
  let v1001 : BitVec 32 := Scalar.muli v1000 c256_i32_731
  v1001
def k0_off42 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_730 : BitVec 32 := 1#32
  let v1000 : BitVec 32 := Scalar.addi arg14 c1_i32_730
  let c256_i32_731 : BitVec 32 := 256#32
  let v1001 : BitVec 32 := Scalar.muli v1000 c256_i32_731
  let v1002 : BitVec 32 := v1001
  let v1003 : Index := Scalar.indexCast v1002
  let c256_732 : Index := 256#32
  ![v1003.toNat, 256]
def k0_off43 (i : grid0.Coords) (k0_t2 : Fin (k0_t2_loop i).trips) : Fin 4 → Nat :=
  let c0_741 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v1010 : Index := Scalar.indexCast arg14
  let c160_742 : Index := 160#32
  let c0_743 : Index := 0#32
  ![0, v1010.toNat, 160, 0]
def k0_mult42 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_761 : BitVec 32 := 1#32
  let v1039 : BitVec 32 := Scalar.addi arg14 c1_i32_761
  let c256_i32_762 : BitVec 32 := 256#32
  let v1040 : BitVec 32 := Scalar.muli v1039 c256_i32_762
  v1040
def k0_off44 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_761 : BitVec 32 := 1#32
  let v1039 : BitVec 32 := Scalar.addi arg14 c1_i32_761
  let c256_i32_762 : BitVec 32 := 256#32
  let v1040 : BitVec 32 := Scalar.muli v1039 c256_i32_762
  let v1041 : BitVec 32 := v1040
  let v1042 : Index := Scalar.indexCast v1041
  let c384_763 : Index := 384#32
  ![v1042.toNat, 384]
def k0_off45 (i : grid0.Coords) (k0_t2 : Fin (k0_t2_loop i).trips) : Fin 4 → Nat :=
  let c0_772 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v1049 : Index := Scalar.indexCast arg14
  let c240_773 : Index := 240#32
  let c0_774 : Index := 0#32
  ![0, v1049.toNat, 240, 0]
def k0_mult43 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_792 : BitVec 32 := 1#32
  let v1078 : BitVec 32 := Scalar.addi arg14 c1_i32_792
  let c256_i32_793 : BitVec 32 := 256#32
  let v1079 : BitVec 32 := Scalar.muli v1078 c256_i32_793
  v1079
def k0_off46 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_792 : BitVec 32 := 1#32
  let v1078 : BitVec 32 := Scalar.addi arg14 c1_i32_792
  let c256_i32_793 : BitVec 32 := 256#32
  let v1079 : BitVec 32 := Scalar.muli v1078 c256_i32_793
  let v1080 : BitVec 32 := v1079
  let v1081 : Index := Scalar.indexCast v1080
  let c512_794 : Index := 512#32
  ![v1081.toNat, 512]
def k0_off47 (i : grid0.Coords) (k0_t2 : Fin (k0_t2_loop i).trips) : Fin 4 → Nat :=
  let c0_803 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v1088 : Index := Scalar.indexCast arg14
  let c320_804 : Index := 320#32
  let c0_805 : Index := 0#32
  ![0, v1088.toNat, 320, 0]
def k0_mult44 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_823 : BitVec 32 := 1#32
  let v1117 : BitVec 32 := Scalar.addi arg14 c1_i32_823
  let c256_i32_824 : BitVec 32 := 256#32
  let v1118 : BitVec 32 := Scalar.muli v1117 c256_i32_824
  v1118
def k0_off48 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_823 : BitVec 32 := 1#32
  let v1117 : BitVec 32 := Scalar.addi arg14 c1_i32_823
  let c256_i32_824 : BitVec 32 := 256#32
  let v1118 : BitVec 32 := Scalar.muli v1117 c256_i32_824
  let v1119 : BitVec 32 := v1118
  let v1120 : Index := Scalar.indexCast v1119
  let c640_825 : Index := 640#32
  ![v1120.toNat, 640]
def k0_off49 (i : grid0.Coords) (k0_t2 : Fin (k0_t2_loop i).trips) : Fin 4 → Nat :=
  let c0_834 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v1127 : Index := Scalar.indexCast arg14
  let c400_835 : Index := 400#32
  let c0_836 : Index := 0#32
  ![0, v1127.toNat, 400, 0]
def k0_mult45 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_854 : BitVec 32 := 1#32
  let v1156 : BitVec 32 := Scalar.addi arg14 c1_i32_854
  let c256_i32_855 : BitVec 32 := 256#32
  let v1157 : BitVec 32 := Scalar.muli v1156 c256_i32_855
  v1157
def k0_off50 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_854 : BitVec 32 := 1#32
  let v1156 : BitVec 32 := Scalar.addi arg14 c1_i32_854
  let c256_i32_855 : BitVec 32 := 256#32
  let v1157 : BitVec 32 := Scalar.muli v1156 c256_i32_855
  let v1158 : BitVec 32 := v1157
  let v1159 : Index := Scalar.indexCast v1158
  let c768_856 : Index := 768#32
  ![v1159.toNat, 768]
def k0_off51 (i : grid0.Coords) (k0_t2 : Fin (k0_t2_loop i).trips) : Fin 4 → Nat :=
  let c0_865 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v1166 : Index := Scalar.indexCast arg14
  let c480_866 : Index := 480#32
  let c0_867 : Index := 0#32
  ![0, v1166.toNat, 480, 0]
def k0_mult46 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_885 : BitVec 32 := 1#32
  let v1195 : BitVec 32 := Scalar.addi arg14 c1_i32_885
  let c256_i32_886 : BitVec 32 := 256#32
  let v1196 : BitVec 32 := Scalar.muli v1195 c256_i32_886
  v1196
def k0_off52 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_885 : BitVec 32 := 1#32
  let v1195 : BitVec 32 := Scalar.addi arg14 c1_i32_885
  let c256_i32_886 : BitVec 32 := 256#32
  let v1196 : BitVec 32 := Scalar.muli v1195 c256_i32_886
  let v1197 : BitVec 32 := v1196
  let v1198 : Index := Scalar.indexCast v1197
  let c896_887 : Index := 896#32
  ![v1198.toNat, 896]
def k0_off53 (i : grid0.Coords) (k0_t2 : Fin (k0_t2_loop i).trips) : Fin 4 → Nat :=
  let c0_896 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v1205 : Index := Scalar.indexCast arg14
  let c560_897 : Index := 560#32
  let c0_898 : Index := 0#32
  ![0, v1205.toNat, 560, 0]
def k0_mult47 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_916 : BitVec 32 := 1#32
  let v1234 : BitVec 32 := Scalar.addi arg14 c1_i32_916
  let c256_i32_917 : BitVec 32 := 256#32
  let v1235 : BitVec 32 := Scalar.muli v1234 c256_i32_917
  v1235
def k0_off54 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_916 : BitVec 32 := 1#32
  let v1234 : BitVec 32 := Scalar.addi arg14 c1_i32_916
  let c256_i32_917 : BitVec 32 := 256#32
  let v1235 : BitVec 32 := Scalar.muli v1234 c256_i32_917
  let v1236 : BitVec 32 := v1235
  let v1237 : Index := Scalar.indexCast v1236
  let c1024_918 : Index := 1024#32
  ![v1237.toNat, 1024]
def k0_off55 (i : grid0.Coords) (k0_t2 : Fin (k0_t2_loop i).trips) : Fin 4 → Nat :=
  let c0_927 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v1244 : Index := Scalar.indexCast arg14
  let c640_928 : Index := 640#32
  let c0_929 : Index := 0#32
  ![0, v1244.toNat, 640, 0]
def k0_mult48 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_947 : BitVec 32 := 1#32
  let v1273 : BitVec 32 := Scalar.addi arg14 c1_i32_947
  let c256_i32_948 : BitVec 32 := 256#32
  let v1274 : BitVec 32 := Scalar.muli v1273 c256_i32_948
  v1274
def k0_off56 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_947 : BitVec 32 := 1#32
  let v1273 : BitVec 32 := Scalar.addi arg14 c1_i32_947
  let c256_i32_948 : BitVec 32 := 256#32
  let v1274 : BitVec 32 := Scalar.muli v1273 c256_i32_948
  let v1275 : BitVec 32 := v1274
  let v1276 : Index := Scalar.indexCast v1275
  let c1152_949 : Index := 1152#32
  ![v1276.toNat, 1152]
def k0_off57 (i : grid0.Coords) (k0_t2 : Fin (k0_t2_loop i).trips) : Fin 4 → Nat :=
  let c0_958 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v1283 : Index := Scalar.indexCast arg14
  let c720_959 : Index := 720#32
  let c0_960 : Index := 0#32
  ![0, v1283.toNat, 720, 0]
def k0_mult49 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_978 : BitVec 32 := 1#32
  let v1312 : BitVec 32 := Scalar.addi arg14 c1_i32_978
  let c256_i32_979 : BitVec 32 := 256#32
  let v1313 : BitVec 32 := Scalar.muli v1312 c256_i32_979
  v1313
def k0_off58 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_978 : BitVec 32 := 1#32
  let v1312 : BitVec 32 := Scalar.addi arg14 c1_i32_978
  let c256_i32_979 : BitVec 32 := 256#32
  let v1313 : BitVec 32 := Scalar.muli v1312 c256_i32_979
  let v1314 : BitVec 32 := v1313
  let v1315 : Index := Scalar.indexCast v1314
  let c1280_980 : Index := 1280#32
  ![v1315.toNat, 1280]
def k0_off59 (i : grid0.Coords) (k0_t2 : Fin (k0_t2_loop i).trips) : Fin 4 → Nat :=
  let c0_989 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v1322 : Index := Scalar.indexCast arg14
  let c800_990 : Index := 800#32
  let c0_991 : Index := 0#32
  ![0, v1322.toNat, 800, 0]
def k0_mult50 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_1009 : BitVec 32 := 1#32
  let v1351 : BitVec 32 := Scalar.addi arg14 c1_i32_1009
  let c256_i32_1010 : BitVec 32 := 256#32
  let v1352 : BitVec 32 := Scalar.muli v1351 c256_i32_1010
  v1352
def k0_off60 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_1009 : BitVec 32 := 1#32
  let v1351 : BitVec 32 := Scalar.addi arg14 c1_i32_1009
  let c256_i32_1010 : BitVec 32 := 256#32
  let v1352 : BitVec 32 := Scalar.muli v1351 c256_i32_1010
  let v1353 : BitVec 32 := v1352
  let v1354 : Index := Scalar.indexCast v1353
  let c1408_1011 : Index := 1408#32
  ![v1354.toNat, 1408]
def k0_off61 (i : grid0.Coords) (k0_t2 : Fin (k0_t2_loop i).trips) : Fin 4 → Nat :=
  let c0_1020 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v1361 : Index := Scalar.indexCast arg14
  let c880_1021 : Index := 880#32
  let c0_1022 : Index := 0#32
  ![0, v1361.toNat, 880, 0]
def k0_mult51 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_1040 : BitVec 32 := 1#32
  let v1390 : BitVec 32 := Scalar.addi arg14 c1_i32_1040
  let c256_i32_1041 : BitVec 32 := 256#32
  let v1391 : BitVec 32 := Scalar.muli v1390 c256_i32_1041
  v1391
def k0_off62 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_1040 : BitVec 32 := 1#32
  let v1390 : BitVec 32 := Scalar.addi arg14 c1_i32_1040
  let c256_i32_1041 : BitVec 32 := 256#32
  let v1391 : BitVec 32 := Scalar.muli v1390 c256_i32_1041
  let v1392 : BitVec 32 := v1391
  let v1393 : Index := Scalar.indexCast v1392
  let c1536_1042 : Index := 1536#32
  ![v1393.toNat, 1536]
def k0_off63 (i : grid0.Coords) (k0_t2 : Fin (k0_t2_loop i).trips) : Fin 4 → Nat :=
  let c0_1051 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v1400 : Index := Scalar.indexCast arg14
  let c960_1052 : Index := 960#32
  let c0_1053 : Index := 0#32
  ![0, v1400.toNat, 960, 0]
def k0_mult52 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_1071 : BitVec 32 := 1#32
  let v1429 : BitVec 32 := Scalar.addi arg14 c1_i32_1071
  let c256_i32_1072 : BitVec 32 := 256#32
  let v1430 : BitVec 32 := Scalar.muli v1429 c256_i32_1072
  v1430
def k0_off64 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_1071 : BitVec 32 := 1#32
  let v1429 : BitVec 32 := Scalar.addi arg14 c1_i32_1071
  let c256_i32_1072 : BitVec 32 := 256#32
  let v1430 : BitVec 32 := Scalar.muli v1429 c256_i32_1072
  let v1431 : BitVec 32 := v1430
  let v1432 : Index := Scalar.indexCast v1431
  let c1664_1073 : Index := 1664#32
  ![v1432.toNat, 1664]
def k0_off65 (i : grid0.Coords) (k0_t2 : Fin (k0_t2_loop i).trips) : Fin 4 → Nat :=
  let c0_1082 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v1439 : Index := Scalar.indexCast arg14
  let c1040_1083 : Index := 1040#32
  let c0_1084 : Index := 0#32
  ![0, v1439.toNat, 1040, 0]
def k0_mult53 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_1102 : BitVec 32 := 1#32
  let v1468 : BitVec 32 := Scalar.addi arg14 c1_i32_1102
  let c256_i32_1103 : BitVec 32 := 256#32
  let v1469 : BitVec 32 := Scalar.muli v1468 c256_i32_1103
  v1469
def k0_off66 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_1102 : BitVec 32 := 1#32
  let v1468 : BitVec 32 := Scalar.addi arg14 c1_i32_1102
  let c256_i32_1103 : BitVec 32 := 256#32
  let v1469 : BitVec 32 := Scalar.muli v1468 c256_i32_1103
  let v1470 : BitVec 32 := v1469
  let v1471 : Index := Scalar.indexCast v1470
  let c1792_1104 : Index := 1792#32
  ![v1471.toNat, 1792]
def k0_off67 (i : grid0.Coords) (k0_t2 : Fin (k0_t2_loop i).trips) : Fin 4 → Nat :=
  let c0_1113 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v1478 : Index := Scalar.indexCast arg14
  let c1120_1114 : Index := 1120#32
  let c0_1115 : Index := 0#32
  ![0, v1478.toNat, 1120, 0]
def k0_mult54 (i : grid0.Coords) (k0_t2 : Fin (k0_t2_loop i).trips) : BitVec 32 :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_1133 : BitVec 32 := 1#32
  let v1507 : BitVec 32 := Scalar.addi arg14 c1_i32_1133
  let c256_i32_1134 : BitVec 32 := 256#32
  let v1508 : BitVec 32 := Scalar.muli v1507 c256_i32_1134
  v1508
def k0_off68 (i : grid0.Coords) (k0_t2 : Fin (k0_t2_loop i).trips) : Fin 2 → Nat :=
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let c1_i32_1133 : BitVec 32 := 1#32
  let v1507 : BitVec 32 := Scalar.addi arg14 c1_i32_1133
  let c256_i32_1134 : BitVec 32 := 256#32
  let v1508 : BitVec 32 := Scalar.muli v1507 c256_i32_1134
  let v1509 : BitVec 32 := v1508
  let v1510 : Index := Scalar.indexCast v1509
  let c1920_1135 : Index := 1920#32
  ![v1510.toNat, 1920]
def k0_off69 (i : grid0.Coords) (k0_t2 : Fin (k0_t2_loop i).trips) : Fin 4 → Nat :=
  let c0_1144 : Index := 0#32
  let c0_i32_13 : BitVec 32 := 0#32
  let arg2 : BitVec 32 := BitVec.ofNat 32 (i 2).val
  let v21 : BitVec 32 := Scalar.subi arg2 c0_i32_13
  let c1_i32_14 : BitVec 32 := 1#32
  let v23 : BitVec 32 := Scalar.divsi v21 c1_i32_14
  let v24 : BitVec 32 := Scalar.muli v23 c1_i32_14
  let v25 : BitVec 32 := Scalar.addi c0_i32_13 v24
  let c1_i32_16 : BitVec 32 := 1#32
  let arg14 : BitVec 32 := Scf.iv v25 c1_i32_16 k0_t2
  let v1517 : Index := Scalar.indexCast arg14
  let c1200_1145 : Index := 1200#32
  let c0_1146 : Index := 0#32
  ![0, v1517.toNat, 1200, 0]
def k0_off70 (i : grid0.Coords) : Fin 4 → Nat :=
  let c0_35 : Index := 0#32
  let arg2 : BitVec 32 := BitVec.ofNat 32 (i 2).val
  let v44 : Index := Scalar.indexCast arg2
  let c0_36 : Index := 0#32
  let c0_37 : Index := 0#32
  ![0, v44.toNat, 0, 0]
def k0_off71 (i : grid0.Coords) : Fin 4 → Nat :=
  let c0_73 : Index := 0#32
  let arg2 : BitVec 32 := BitVec.ofNat 32 (i 2).val
  let v91 : Index := Scalar.indexCast arg2
  let c80 : Index := 80#32
  let c0_74 : Index := 0#32
  ![0, v91.toNat, 80, 0]
def k0_off72 (i : grid0.Coords) : Fin 4 → Nat :=
  let c0_109 : Index := 0#32
  let arg2 : BitVec 32 := BitVec.ofNat 32 (i 2).val
  let v138 : Index := Scalar.indexCast arg2
  let c160 : Index := 160#32
  let c0_110 : Index := 0#32
  ![0, v138.toNat, 160, 0]
def k0_off73 (i : grid0.Coords) : Fin 4 → Nat :=
  let c0_145 : Index := 0#32
  let arg2 : BitVec 32 := BitVec.ofNat 32 (i 2).val
  let v185 : Index := Scalar.indexCast arg2
  let c240 : Index := 240#32
  let c0_146 : Index := 0#32
  ![0, v185.toNat, 240, 0]
def k0_off74 (i : grid0.Coords) : Fin 4 → Nat :=
  let c0_181 : Index := 0#32
  let arg2 : BitVec 32 := BitVec.ofNat 32 (i 2).val
  let v232 : Index := Scalar.indexCast arg2
  let c320 : Index := 320#32
  let c0_182 : Index := 0#32
  ![0, v232.toNat, 320, 0]
def k0_off75 (i : grid0.Coords) : Fin 4 → Nat :=
  let c0_217 : Index := 0#32
  let arg2 : BitVec 32 := BitVec.ofNat 32 (i 2).val
  let v279 : Index := Scalar.indexCast arg2
  let c400 : Index := 400#32
  let c0_218 : Index := 0#32
  ![0, v279.toNat, 400, 0]
def k0_off76 (i : grid0.Coords) : Fin 4 → Nat :=
  let c0_253 : Index := 0#32
  let arg2 : BitVec 32 := BitVec.ofNat 32 (i 2).val
  let v326 : Index := Scalar.indexCast arg2
  let c480 : Index := 480#32
  let c0_254 : Index := 0#32
  ![0, v326.toNat, 480, 0]
def k0_off77 (i : grid0.Coords) : Fin 4 → Nat :=
  let c0_289 : Index := 0#32
  let arg2 : BitVec 32 := BitVec.ofNat 32 (i 2).val
  let v373 : Index := Scalar.indexCast arg2
  let c560 : Index := 560#32
  let c0_290 : Index := 0#32
  ![0, v373.toNat, 560, 0]
def k0_off78 (i : grid0.Coords) : Fin 4 → Nat :=
  let c0_325 : Index := 0#32
  let arg2 : BitVec 32 := BitVec.ofNat 32 (i 2).val
  let v420 : Index := Scalar.indexCast arg2
  let c640_326 : Index := 640#32
  let c0_327 : Index := 0#32
  ![0, v420.toNat, 640, 0]
def k0_off79 (i : grid0.Coords) : Fin 4 → Nat :=
  let c0_362 : Index := 0#32
  let arg2 : BitVec 32 := BitVec.ofNat 32 (i 2).val
  let v467 : Index := Scalar.indexCast arg2
  let c720 : Index := 720#32
  let c0_363 : Index := 0#32
  ![0, v467.toNat, 720, 0]
def k0_off80 (i : grid0.Coords) : Fin 4 → Nat :=
  let c0_398 : Index := 0#32
  let arg2 : BitVec 32 := BitVec.ofNat 32 (i 2).val
  let v514 : Index := Scalar.indexCast arg2
  let c800 : Index := 800#32
  let c0_399 : Index := 0#32
  ![0, v514.toNat, 800, 0]
def k0_off81 (i : grid0.Coords) : Fin 4 → Nat :=
  let c0_434 : Index := 0#32
  let arg2 : BitVec 32 := BitVec.ofNat 32 (i 2).val
  let v561 : Index := Scalar.indexCast arg2
  let c880 : Index := 880#32
  let c0_435 : Index := 0#32
  ![0, v561.toNat, 880, 0]
def k0_off82 (i : grid0.Coords) : Fin 4 → Nat :=
  let c0_470 : Index := 0#32
  let arg2 : BitVec 32 := BitVec.ofNat 32 (i 2).val
  let v608 : Index := Scalar.indexCast arg2
  let c960 : Index := 960#32
  let c0_471 : Index := 0#32
  ![0, v608.toNat, 960, 0]
def k0_off83 (i : grid0.Coords) : Fin 4 → Nat :=
  let c0_506 : Index := 0#32
  let arg2 : BitVec 32 := BitVec.ofNat 32 (i 2).val
  let v655 : Index := Scalar.indexCast arg2
  let c1040 : Index := 1040#32
  let c0_507 : Index := 0#32
  ![0, v655.toNat, 1040, 0]
def k0_off84 (i : grid0.Coords) : Fin 4 → Nat :=
  let c0_542 : Index := 0#32
  let arg2 : BitVec 32 := BitVec.ofNat 32 (i 2).val
  let v702 : Index := Scalar.indexCast arg2
  let c1120 : Index := 1120#32
  let c0_543 : Index := 0#32
  ![0, v702.toNat, 1120, 0]
def k0_off85 (i : grid0.Coords) : Fin 4 → Nat :=
  let c0_578 : Index := 0#32
  let arg2 : BitVec 32 := BitVec.ofNat 32 (i 2).val
  let v749 : Index := Scalar.indexCast arg2
  let c1200 : Index := 1200#32
  let c0_579 : Index := 0#32
  ![0, v749.toNat, 1200, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.minsi v0 c16_i32
  let c0_i32 : BitVec 32 := 0#32
  let c0_i32_0 : BitVec 32 := 0#32
  ![arg0.toNat, v1.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x17x1280x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel6Ideal.lean ====
variable {F : FTy → Type} [FloatOps F] [Named F]
def κ : String → Option EReal := fun
  | "mask" => some ⊥
  | _ => none
-- ==== Reference6Ideal.lean ====
abbrev S16x17x2048x256 : Shape := ⟨4, ![16, 17, 2048, 256]⟩
abbrev S16x4352x2048 : Shape := ⟨3, ![16, 4352, 2048]⟩
abbrev S16x4352x1024 : Shape := ⟨3, ![16, 4352, 1024]⟩
abbrev S16x17x16x128x256 : Shape := ⟨5, ![16, 17, 16, 128, 256]⟩
abbrev S16x16x17x256x128 : Shape := ⟨5, ![16, 16, 17, 256, 128]⟩
abbrev S16x16x4352x128 : Shape := ⟨4, ![16, 16, 4352, 128]⟩
abbrev S16x4352x16x128 : Shape := ⟨4, ![16, 4352, 16, 128]⟩
abbrev S16x16x4352x4352 : Shape := ⟨4, ![16, 16, 4352, 4352]⟩
abbrev S4352 : Shape := ⟨1, ![4352]⟩
abbrev S1x4352 : Shape := ⟨2, ![1, 4352]⟩
abbrev S4352x1 : Shape := ⟨2, ![4352, 1]⟩
abbrev S4352x4352 : Shape := ⟨2, ![4352, 4352]⟩
abbrev S_ : Shape := ⟨0, ![]⟩
abbrev S16x16x4352 : Shape := ⟨3, ![16, 16, 4352]⟩
abbrev S16x16x4352x1 : Shape := ⟨4, ![16, 16, 4352, 1]⟩
abbrev S16x4352x16x64 : Shape := ⟨4, ![16, 4352, 16, 64]⟩
abbrev S16x16x64x4352 : Shape := ⟨4, ![16, 16, 64, 4352]⟩

abbrev nBuf : Space → Nat
  | .hbm => 42
  | .vmem => 0
  | .smem => 0
  | _ => 0

abbrev bufTy : (tb : Table) → Fin (tcTables nBuf tb) → BufTy
  | .hbm, ⟨0, _⟩ => ⟨S16x17x2048x256, .bf16⟩
  | .hbm, ⟨1, _⟩ => ⟨S16x4352x2048, .bf16⟩
  | .hbm, ⟨2, _⟩ => ⟨S16x4352x1024, .bf16⟩
  | .hbm, ⟨3, _⟩ => ⟨S16x17x2048x256, .f32⟩
  | .hbm, ⟨4, _⟩ => ⟨S16x17x16x128x256, .f32⟩
  | .hbm, ⟨5, _⟩ => ⟨S16x16x17x256x128, .f32⟩
  | .hbm, ⟨6, _⟩ => ⟨S16x16x4352x128, .f32⟩
  | .hbm, ⟨7, _⟩ => ⟨S16x4352x2048, .f32⟩
  | .hbm, ⟨8, _⟩ => ⟨S16x4352x16x128, .f32⟩
  | .hbm, ⟨9, _⟩ => ⟨S16x16x4352x4352, .f32⟩
  | .hbm, ⟨10, _⟩ => ⟨S4352, .i32⟩
  | .hbm, ⟨11, _⟩ => ⟨S1x4352, .i32⟩
  | .hbm, ⟨12, _⟩ => ⟨S4352, .i32⟩
  | .hbm, ⟨13, _⟩ => ⟨S4352x1, .i32⟩
  | .hbm, ⟨14, _⟩ => ⟨S4352x4352, .i32⟩
  | .hbm, ⟨15, _⟩ => ⟨S4352x4352, .i32⟩
  | .hbm, ⟨16, _⟩ => ⟨S4352x4352, .i1⟩
  | .hbm, ⟨17, _⟩ => ⟨S_, .f32⟩
  | .hbm, ⟨18, _⟩ => ⟨S_, .f32⟩
  | .hbm, ⟨19, _⟩ => ⟨S16x16x4352x4352, .i1⟩
  | .hbm, ⟨20, _⟩ => ⟨S16x16x4352x4352, .f32⟩
  | .hbm, ⟨21, _⟩ => ⟨S16x16x4352x4352, .f32⟩
  | .hbm, ⟨22, _⟩ => ⟨S_, .f32⟩
  | .hbm, ⟨23, _⟩ => ⟨S16x16x4352, .f32⟩
  | .hbm, ⟨24, _⟩ => ⟨S16x16x4352x1, .f32⟩
  | .hbm, ⟨25, _⟩ => ⟨S16x16x4352x4352, .f32⟩
  | .hbm, ⟨26, _⟩ => ⟨S16x16x4352x4352, .f32⟩
  | .hbm, ⟨27, _⟩ => ⟨S_, .f32⟩
  | .hbm, ⟨28, _⟩ => ⟨S16x16x4352x4352, .f32⟩
  | .hbm, ⟨29, _⟩ => ⟨S16x16x4352x4352, .f32⟩
  | .hbm, ⟨30, _⟩ => ⟨S16x16x4352x4352, .f32⟩
  | .hbm, ⟨31, _⟩ => ⟨S_, .f32⟩
  | .hbm, ⟨32, _⟩ => ⟨S16x16x4352, .f32⟩
  | .hbm, ⟨33, _⟩ => ⟨S16x16x4352x1, .f32⟩
  | .hbm, ⟨34, _⟩ => ⟨S16x16x4352x4352, .f32⟩
  | .hbm, ⟨35, _⟩ => ⟨S16x16x4352x4352, .f32⟩
  | .hbm, ⟨36, _⟩ => ⟨S16x4352x1024, .f32⟩
  | .hbm, ⟨37, _⟩ => ⟨S16x4352x16x64, .f32⟩
  | .hbm, ⟨38, _⟩ => ⟨S16x16x64x4352, .f32⟩
  | .hbm, ⟨39, _⟩ => ⟨S16x4352x16x64, .f32⟩
  | .hbm, ⟨40, _⟩ => ⟨S16x4352x1024, .f32⟩
  | .hbm, ⟨41, _⟩ => ⟨S16x4352x1024, .bf16⟩
  | _, _ => ⟨S16x17x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel7.lean ====
abbrev S16x4352x1536 : Shape := ⟨3, ![16, 4352, 1536]⟩
abbrev S16x4352x1024 : Shape := ⟨3, ![16, 4352, 1024]⟩
abbrev S16x4352x128 : Shape := ⟨3, ![16, 4352, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S4x1024 : Shape := ⟨2, ![4, 1024]⟩
abbrev S16x64x64 : Shape := ⟨3, ![16, 64, 64]⟩
abbrev S1x1536 : Shape := ⟨2, ![1, 1536]⟩
abbrev S_ : Shape := ⟨0, ![]⟩
abbrev S1x128 : Shape := ⟨2, ![1, 128]⟩
abbrev S1 : Shape := ⟨1, ![1]⟩
abbrev S2 : Shape := ⟨1, ![2]⟩
abbrev S16x64 : Shape := ⟨2, ![16, 64]⟩
abbrev S1x1024 : Shape := ⟨2, ![1, 1024]⟩
abbrev S128 : Shape := ⟨1, ![128]⟩
abbrev S128x1 : Shape := ⟨2, ![128, 1]⟩
abbrev S128x1024 : Shape := ⟨2, ![128, 1024]⟩
abbrev S8x2x64x64 : Shape := ⟨4, ![8, 2, 64, 64]⟩
abbrev S8x1x64x64 : Shape := ⟨4, ![8, 1, 64, 64]⟩
abbrev S8x64x64 : Shape := ⟨3, ![8, 64, 64]⟩
abbrev S8x64x128 : Shape := ⟨3, ![8, 64, 128]⟩
abbrev S8x128x128 : Shape := ⟨3, ![8, 128, 128]⟩
abbrev S8x128x256 : Shape := ⟨3, ![8, 128, 256]⟩
abbrev S1x256x1536 : Shape := ⟨3, ![1, 256, 1536]⟩
abbrev S1x256x1024 : Shape := ⟨3, ![1, 256, 1024]⟩
abbrev S1x256x128 : Shape := ⟨3, ![1, 256, 128]⟩
abbrev S264x1536 : Shape := ⟨2, ![264, 1536]⟩
abbrev S2x128x512 : Shape := ⟨3, ![2, 128, 512]⟩
abbrev S264x1024 : Shape := ⟨2, ![264, 1024]⟩
abbrev S8x1024 : Shape := ⟨2, ![8, 1024]⟩
abbrev S256x1024 : Shape := ⟨2, ![256, 1024]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩
abbrev S248x1024 : Shape := ⟨2, ![248, 1024]⟩
abbrev S32x8x1024 : Shape := ⟨3, ![32, 8, 1024]⟩
abbrev S1x8x1024 : Shape := ⟨3, ![1, 8, 1024]⟩
abbrev S256x1536 : Shape := ⟨2, ![256, 1536]⟩
abbrev S8x1536 : Shape := ⟨2, ![8, 1536]⟩
abbrev S128x1536 : Shape := ⟨2, ![128, 1536]⟩
abbrev S1x128x1024 : Shape := ⟨3, ![1, 128, 1024]⟩
abbrev S1x128x128 : Shape := ⟨3, ![1, 128, 128]⟩
abbrev S128x128 : Shape := ⟨2, ![128, 128]⟩
abbrev S128x512 : Shape := ⟨2, ![128, 512]⟩
abbrev S1x512 : Shape := ⟨2, ![1, 512]⟩
abbrev S1x128x512 : Shape := ⟨3, ![1, 128, 512]⟩

abbrev nBuf : Space → Nat
  | .hbm => 100
  | .vmem => 31
  | .smem => 0
  | _ => 0

abbrev bufTy : (tb : Table) → Fin (tcTables nBuf tb) → BufTy
  | .hbm, ⟨0, _⟩ => ⟨S16x4352x1536, .bf16⟩
  | .hbm, ⟨1, _⟩ => ⟨S16x4352x1024, .bf16⟩
  | .hbm, ⟨2, _⟩ => ⟨S16x4352x128, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S16x4352x1024, .bf16⟩
  | .hbm, ⟨10, _⟩ => ⟨S16x4352x1024, .bf16⟩
  | .hbm, ⟨11, _⟩ => ⟨S4x1024, .f32⟩
  | .hbm, ⟨12, _⟩ => ⟨S1024, .f32⟩
  | .hbm, ⟨13, _⟩ => ⟨S16x64x64, .f32⟩
  | .hbm, ⟨14, _⟩ => ⟨S1024, .f32⟩
  | .hbm, ⟨15, _⟩ => ⟨S16x64x64, .f32⟩
  | .hbm, ⟨16, _⟩ => ⟨S1024, .f32⟩
  | .hbm, ⟨17, _⟩ => ⟨S1024, .f32⟩
  | .hbm, ⟨18, _⟩ => ⟨S1x1536, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S1x128, .f32⟩
  | .hbm, ⟨35, _⟩ => ⟨S16x64, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S128, .i32⟩
  | .hbm, ⟨40, _⟩ => ⟨S128x1, .i32⟩
  | .hbm, ⟨41, _⟩ => ⟨S1024, .i32⟩
  | .hbm, ⟨42, _⟩ => ⟨S1x1024, .i32⟩
  | .hbm, ⟨43, _⟩ => ⟨S_, .i32⟩
  | .hbm, ⟨44, _⟩ => ⟨S_, .i32⟩
  | .hbm, ⟨45, _⟩ => ⟨S1x1024, .i32⟩
  | .hbm, ⟨46, _⟩ => ⟨S1x1024, .i32⟩
  | .hbm, ⟨47, _⟩ => ⟨S1x1024, .i32⟩
  | .hbm, ⟨48, _⟩ => ⟨S_, .i32⟩
  | .hbm, ⟨49, _⟩ => ⟨S1x1024, .i32⟩
  | .hbm, ⟨50, _⟩ => ⟨S1x1024, .i1⟩
  | .hbm, ⟨51, _⟩ => ⟨S1x1024, .i32⟩
  | .hbm, ⟨52, _⟩ => ⟨S1x1024, .i32⟩
  | .hbm, ⟨53, _⟩ => ⟨S_, .i32⟩
  | .hbm, ⟨54, _⟩ => ⟨S1x1024, .i32⟩
  | .hbm, ⟨55, _⟩ => ⟨S1x1024, .i1⟩
  | .hbm, ⟨56, _⟩ => ⟨S1x1024, .i1⟩
  | .hbm, ⟨57, _⟩ => ⟨S_, .i32⟩
  | .hbm, ⟨58, _⟩ => ⟨S1x1024, .i32⟩
  | .hbm, ⟨59, _⟩ => ⟨S1x1024, .i32⟩
  | .hbm, ⟨60, _⟩ => ⟨S1x1024, .i32⟩
  | .hbm, ⟨61, _⟩ => ⟨S_, .i32⟩
  | .hbm, ⟨62, _⟩ => ⟨S1x1024, .i32⟩
  | .hbm, ⟨63, _⟩ => ⟨S1x1024, .i32⟩
  | .hbm, ⟨64, _⟩ => ⟨S128x1024, .i32⟩
  | .hbm, ⟨65, _⟩ => ⟨S128x1024, .i32⟩
  | .hbm, ⟨66, _⟩ => ⟨S128x1024, .i1⟩
  | .hbm, ⟨67, _⟩ => ⟨S128x1024, .bf16⟩
  | .hbm, ⟨68, _⟩ => ⟨S1x1024, .f32⟩
  | .hbm, ⟨69, _⟩ => ⟨S8x2x64x64, .f32⟩
  | .hbm, ⟨70, _⟩ => ⟨S8x1x64x64, .f32⟩
  | .hbm, ⟨71, _⟩ => ⟨S8x64x64, .f32⟩
  | .hbm, ⟨72, _⟩ => ⟨S_, .f32⟩
  | .hbm, ⟨73, _⟩ => ⟨S8x64x64, .f32⟩
  | .hbm, ⟨74, _⟩ => ⟨S8x1x64x64, .f32⟩
  | .hbm, ⟨75, _⟩ => ⟨S8x64x64, .f32⟩
  | .hbm, ⟨76, _⟩ => ⟨S8x64x128, .f32⟩
  | .hbm, ⟨77, _⟩ => ⟨S8x1x64x64, .f32⟩
  | .hbm, ⟨78, _⟩ => ⟨S8x64x64, .f32⟩
  | .hbm, ⟨79, _⟩ => ⟨S8x64x128, .f32⟩
  | .hbm, ⟨80, _⟩ => ⟨S8x128x128, .f32⟩
  | .hbm, ⟨81, _⟩ => ⟨S8x2x64x64, .f32⟩
  | .hbm, ⟨82, _⟩ => ⟨S8x1x64x64, .f32⟩
  | .hbm, ⟨83, _⟩ => ⟨S8x64x64, .f32⟩
  | .hbm, ⟨84, _⟩ => ⟨S_, .f32⟩
  | .hbm, ⟨85, _⟩ => ⟨S8x64x64, .f32⟩
  | .hbm, ⟨86, _⟩ => ⟨S8x1x64x64, .f32⟩
  | .hbm, ⟨87, _⟩ => ⟨S8x64x64, .f32⟩
  | .hbm, ⟨88, _⟩ => ⟨S8x64x128, .f32⟩
  | .hbm, ⟨89, _⟩ => ⟨S8x1x64x64, .f32⟩
  | .hbm, ⟨90, _⟩ => ⟨S8x64x64, .f32⟩
  | .hbm, ⟨91, _⟩ => ⟨S8x64x128, .f32⟩
  | .hbm, ⟨92, _⟩ => ⟨S8x128x128, .f32⟩
  | .hbm, ⟨93, _⟩ => ⟨S8x128x256, .f32⟩
  | .hbm, ⟨94, _⟩ => ⟨S8x128x256, .bf16⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S16x4352x1024, .bf16⟩
  | .hbm, ⟨99, _⟩ => ⟨S16x4352x1024, .bf16⟩
  | .local _ .vmem, ⟨0, _⟩ => ⟨S1x256x1536, .bf16⟩
  | .local _ .vmem, ⟨1, _⟩ => ⟨S1x256x1536, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x128, .f32⟩
  | .local _ .vmem, ⟨5, _⟩ => ⟨S1x256x128, .f32⟩
  | .local _ .vmem, ⟨6, _⟩ => ⟨S4x1536, .f32⟩
  | .local _ .vmem, ⟨7, _⟩ => ⟨S1x1536, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S128x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S4x1024, .f32⟩
  | .local _ .vmem, ⟨18, _⟩ => ⟨S1x1024, .f32⟩
  | .local _ .vmem, ⟨19, _⟩ => ⟨S8x128x256, .bf16⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S264x1536, .f32⟩
  | .local _ .vmem, ⟨28, _⟩ => ⟨S2x128x512, .f32⟩
  | .local _ .vmem, ⟨29, _⟩ => ⟨S264x1024, .f32⟩
  | .local _ .vmem, ⟨30, _⟩ => ⟨S8x1024, .f32⟩
  | _, _ => ⟨S16x4352x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_1 : Ref sig .tc := ⟨.hbm, 27, rfl⟩
abbrev main_v6 : Ref sig .tc := ⟨.hbm, 28, rfl⟩
abbrev main_c_2 : Ref sig .tc := ⟨.hbm, 29, rfl⟩
abbrev main_v7 : Ref sig .tc := ⟨.hbm, 30, rfl⟩
abbrev main_c_3 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v19 : Ref sig .tc := ⟨.hbm, 60, rfl⟩
abbrev main_c_5 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_6 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_7 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54_0 : Ref sig .tc := ⟨.hbm, 98, rfl⟩
abbrev main_v54_1 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨2, ![16, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S4x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x128x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Proof.RecFirstIdeal.lean ====
/- The scan call’s body at the first tile of a sequence (over the reals): its run from any contents of the carried scratch,
   with the pieces that its stores leave. -/
module

public import proofs.«01_k».proof.Proof.Gen.Kernel7Ideal.Frame.Runs

@[expose] public section

-- the buffers have long axes
set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- What the body's stores leave in each output's staging memref, as pieces (last first) IN CASE A (`scf.if` 0 taken, `scf.if` 1 taken, `scf.if` 2 taken, `scf.if` 3 taken: points 0, 17, … 255: 16 of 272), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : cond0_0 i) (hc1 : cond0_1 i) (hc2 : cond0_2 i) (hc3 : cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) :
    Σ' (L18 : List (View.Piece (Elt F) S1x256x1024 .bf16)), Σ' (L19 : List (View.Piece (Elt F) S1x256x1024 .bf16)), Σ' (LS0 : List (View.Piece (Elt F) S264x1536 .f32)), Σ' (LS1 : List (View.Piece (Elt F) S2x128x512 .f32)), Σ' (LS2 : List (View.Piece (Elt F) S264x1024 .f32)), { LS3 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LS1) ∗ (∃ f, arg24.view.loc (c : Thread nD τ) ↦[arg24.view.set]{fullShare} arg24.view.writes (Elt F) f LS2) ∗ (∃ f, arg25.view.loc (c : Thread nD τ) ↦[arg25.view.set]{fullShare} arg25.view.writes (Elt F) f LS3)) -∗ K ⟨⟩))
          ⊢ wp frame (wpE (defs₀ (F := F)) Variants.none c none) E (cc0_recurrent i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, fun E K => ?run⟩
  case run =>
    simp only [cc0_recurrent_eq_skeleton]; unfold cc0_recurrent_skel
    simp only [k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [HS0]; · iexists _; iexact HS0
    isplitl [HS1]; · iexists _; iexact HS1
    isplitl [HS2]; · iexists _; iexact HS2
    iexists _; iexact HS3

end Cert.Kernel7Ideal.Gen

end
-- ==== Proof.RecRestIdeal.lean ====
/- The scan call’s body at the later tiles of a sequence (over the reals): its run from the scratch that the tile before left,
   with the pieces that its stores leave. -/
module

public import proofs.«01_k».proof.Proof.RecFirstIdeal

@[expose] public section

-- the buffers have long axes
set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- What the body's stores leave in each output's staging memref, as pieces (last first) IN CASE B (`scf.if` 0 not taken, `scf.if` 1 not taken, `scf.if` 2 not taken, `scf.if` 3 not taken: points 1, 2, … 271: 256 of 272), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : ¬cond0_0 i) (hc1 : ¬cond0_1 i) (hc2 : ¬cond0_2 i) (hc3 : ¬cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (xs0 : Vec F S264x1536 .f32) (xs1 : Vec F S2x128x512 .f32) (xs2 : Vec F S264x1024 .f32) (xs3 : Vec F S8x1024 .f32) :
    Σ' (L18 : List (View.Piece (Elt F) S1x256x1024 .bf16)), Σ' (L19 : List (View.Piece (Elt F) S1x256x1024 .bf16)), Σ' (LS0 : List (View.Piece (Elt F) S264x1536 .f32)), Σ' (LS1 : List (View.Piece (Elt F) S2x128x512 .f32)), Σ' (LS2 : List (View.Piece (Elt F) S264x1024 .f32)), { LS3 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ owns (c : Thread nD τ) arg22 fullShare xs0 ∗ owns (c : Thread nD τ) arg23 fullShare xs1 ∗ owns (c : Thread nD τ) arg24 fullShare xs2 ∗ owns (c : Thread nD τ) arg25 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LS1) ∗ (∃ f, arg24.view.loc (c : Thread nD τ) ↦[arg24.view.set]{fullShare} arg24.view.writes (Elt F) f LS2) ∗ (arg25.view.loc (c : Thread nD τ) ↦[arg25.view.set]{fullShare} arg25.view.writes (Elt F) (harg25.unread xs3) LS3)) -∗ K ⟨⟩))
          ⊢ wp frame (wpE (defs₀ (F := F)) Variants.none c none) E (cc0_recurrent i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, fun E K => ?run⟩
  case run =>
    simp only [cc0_recurrent_eq_skeleton]; unfold cc0_recurrent_skel
    simp only [k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg22.eq_unread hfs0; obtain rfl := harg23.eq_unread hfs1; obtain rfl := harg24.eq_unread hfs2; obtain rfl := harg25.eq_unread hfs3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [HS0]; · iexists _; iexact HS0
    isplitl [HS1]; · iexists _; iexact HS1
    isplitl [HS2]; · iexists _; iexact HS2
    iexact HS3

end Cert.Kernel7Ideal.Gen

end
-- ==== Proof.RecDataIdeal.lean ====
/- What the scan call’s output blocks and carried scratch hold after each point of the grid (over the reals). -/
module

public import proofs.«01_k».proof.Proof.RecRestIdeal
public import Idealize.ShloMosaic.Lib.Claim

@[expose] public section

-- the buffers have long axes
set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 18 tile its block (2 stores of `S1x128x1024`, checked by the kernel's evaluation: Lib/Ring.lean `Piece.tiledL`, linear in the pieces, through a loop's `@[irreducible]` trip theorem too), so they cover it. -/
theorem cover0_A_18 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : cond0_0 i) (hc1 : cond0_1 i) (hc2 : cond0_2 i) (hc3 : cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).1 S1x128x1024.size (by sl_kernel_rfl) y

/-- What case A leaves in output 18's staging buffer: its pieces read back over junk. -/
def out0_A_18 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : cond0_0 i) (hc1 : cond0_1 i) (hc2 : cond0_2 i) (hc3 : cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) : Vec F S1x256x1024 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).1)

/-- Case A's pieces for output 19 tile its block (1 store of `S1x256x1024`, checked by the kernel's evaluation: Lib/Ring.lean `Piece.tiledL`, linear in the pieces, through a loop's `@[irreducible]` trip theorem too), so they cover it. -/
theorem cover0_A_19 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : cond0_0 i) (hc1 : cond0_1 i) (hc2 : cond0_2 i) (hc3 : cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.1 S1x256x1024.size (by sl_kernel_rfl) y

/-- What case A leaves in output 19's staging buffer: its pieces read back over junk. -/
def out0_A_19 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : cond0_0 i) (hc1 : cond0_1 i) (hc2 : cond0_2 i) (hc3 : cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) : Vec F S1x256x1024 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.1)

/-- Case A's pieces for scratch `arg22`, which the kernel carries between points, cover it: 3 pieces (stores and landed copies) of several sizes (`S256x1536`, `S8x1536`) tiling it when cut into blocks of `![8, 1536]` (Lib/Ring.lean `Piece.tiledBy`). -/
theorem scover0_A_0 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : cond0_0 i) (hc1 : cond0_1 i) (hc2 : cond0_2 i) (hc3 : cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (y : S264x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.2.1 ![8, 1536] (by sl_kernel_rfl) y

/-- What case A leaves in scratch `arg22`: its pieces read back over junk. -/
def sout0_A_0 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : cond0_0 i) (hc1 : cond0_1 i) (hc2 : cond0_2 i) (hc3 : cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) : Vec F S264x1536 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.2.1)

/-- Case A's pieces for scratch `arg23`, which the kernel carries between points, cover it: one of them a store of the WHOLE buffer (Lib/Ring.lean `sl_whole_mem`). -/
theorem scover0_A_1 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : cond0_0 i) (hc1 : cond0_1 i) (hc2 : cond0_2 i) (hc3 : cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (y : S2x128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.2.2.1 (by sl_whole_mem) y

/-- What case A leaves in scratch `arg23`: its pieces read back over junk. -/
def sout0_A_1 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : cond0_0 i) (hc1 : cond0_1 i) (hc2 : cond0_2 i) (hc3 : cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) : Vec F S2x128x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.2.2.1)

/-- Case A's pieces for scratch `arg24`, which the kernel carries between points, cover it: 3 pieces (stores and landed copies) of several sizes (`S256x1024`, `S8x1024`) tiling it when cut into blocks of `![8, 1024]` (Lib/Ring.lean `Piece.tiledBy`). -/
theorem scover0_A_2 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : cond0_0 i) (hc1 : cond0_1 i) (hc2 : cond0_2 i) (hc3 : cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (y : S264x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.2.2.2.1 ![8, 1024] (by sl_kernel_rfl) y

/-- What case A leaves in scratch `arg24`: its pieces read back over junk. -/
def sout0_A_2 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : cond0_0 i) (hc1 : cond0_1 i) (hc2 : cond0_2 i) (hc3 : cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) : Vec F S264x1024 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.2.2.2.1)

/-- Case A's pieces for scratch `arg25`, which the kernel carries between points, cover it: one of them a store of the WHOLE buffer (Lib/Ring.lean `sl_whole_mem`). -/
theorem scover0_A_3 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : cond0_0 i) (hc1 : cond0_1 i) (hc2 : cond0_2 i) (hc3 : cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (y : S8x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.2.2.2.2.1 (by sl_whole_mem) y

/-- What case A leaves in scratch `arg25`: its pieces read back over junk. -/
def sout0_A_3 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : cond0_0 i) (hc1 : cond0_1 i) (hc2 : cond0_2 i) (hc3 : cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) : Vec F S8x1024 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17).2.2.2.2.2.1)

/-- Case B's pieces for output 18 tile its block (2 stores of `S1x128x1024`, checked by the kernel's evaluation: Lib/Ring.lean `Piece.tiledL`, linear in the pieces, through a loop's `@[irreducible]` trip theorem too), so they cover it. -/
theorem cover0_B_18 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : ¬cond0_0 i) (hc1 : ¬cond0_1 i) (hc2 : ¬cond0_2 i) (hc3 : ¬cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (xs0 : Vec F S264x1536 .f32) (xs1 : Vec F S2x128x512 .f32) (xs2 : Vec F S264x1024 .f32) (xs3 : Vec F S8x1024 .f32) (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).1 S1x128x1024.size (by sl_kernel_rfl) y

/-- What case B leaves in output 18's staging buffer: its pieces read back over junk. -/
def out0_B_18 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : ¬cond0_0 i) (hc1 : ¬cond0_1 i) (hc2 : ¬cond0_2 i) (hc3 : ¬cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (xs0 : Vec F S264x1536 .f32) (xs1 : Vec F S2x128x512 .f32) (xs2 : Vec F S264x1024 .f32) (xs3 : Vec F S8x1024 .f32) : Vec F S1x256x1024 .bf16 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).1)

/-- Case B's pieces for output 19 tile its block (1 store of `S1x256x1024`, checked by the kernel's evaluation: Lib/Ring.lean `Piece.tiledL`, linear in the pieces, through a loop's `@[irreducible]` trip theorem too), so they cover it. -/
theorem cover0_B_19 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : ¬cond0_0 i) (hc1 : ¬cond0_1 i) (hc2 : ¬cond0_2 i) (hc3 : ¬cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (xs0 : Vec F S264x1536 .f32) (xs1 : Vec F S2x128x512 .f32) (xs2 : Vec F S264x1024 .f32) (xs3 : Vec F S8x1024 .f32) (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).2.1 S1x256x1024.size (by sl_kernel_rfl) y

/-- What case B leaves in output 19's staging buffer: its pieces read back over junk. -/
def out0_B_19 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : ¬cond0_0 i) (hc1 : ¬cond0_1 i) (hc2 : ¬cond0_2 i) (hc3 : ¬cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (xs0 : Vec F S264x1536 .f32) (xs1 : Vec F S2x128x512 .f32) (xs2 : Vec F S264x1024 .f32) (xs3 : Vec F S8x1024 .f32) : Vec F S1x256x1024 .bf16 :=
  VO0_19.read (Elt F) (VO0_19.writes (Elt F) VO0_19.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).2.1)

/-- Case B's pieces for scratch `arg22`, which the kernel carries between points, cover it: 2 pieces (stores and landed copies) of several sizes (`S256x1536`, `S8x1536`) tiling it when cut into blocks of `![8, 1536]` (Lib/Ring.lean `Piece.tiledBy`). -/
theorem scover0_B_0 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : ¬cond0_0 i) (hc1 : ¬cond0_1 i) (hc2 : ¬cond0_2 i) (hc3 : ¬cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (xs0 : Vec F S264x1536 .f32) (xs1 : Vec F S2x128x512 .f32) (xs2 : Vec F S264x1024 .f32) (xs3 : Vec F S8x1024 .f32) (y : S264x1536.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).2.2.1 ![8, 1536] (by sl_kernel_rfl) y

/-- What case B leaves in scratch `arg22`: its pieces read back over junk. -/
def sout0_B_0 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : ¬cond0_0 i) (hc1 : ¬cond0_1 i) (hc2 : ¬cond0_2 i) (hc3 : ¬cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (xs0 : Vec F S264x1536 .f32) (xs1 : Vec F S2x128x512 .f32) (xs2 : Vec F S264x1024 .f32) (xs3 : Vec F S8x1024 .f32) : Vec F S264x1536 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).2.2.1)

/-- Case B's pieces for scratch `arg23`, which the kernel carries between points, cover it: 4 pieces of `S1x128x512` tiling it (Lib/Ring.lean `Piece.tiledL`). -/
theorem scover0_B_1 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : ¬cond0_0 i) (hc1 : ¬cond0_1 i) (hc2 : ¬cond0_2 i) (hc3 : ¬cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (xs0 : Vec F S264x1536 .f32) (xs1 : Vec F S2x128x512 .f32) (xs2 : Vec F S264x1024 .f32) (xs3 : Vec F S8x1024 .f32) (y : S2x128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).2.2.2.1 S1x128x512.size (by sl_kernel_rfl) y

/-- What case B leaves in scratch `arg23`: its pieces read back over junk. -/
def sout0_B_1 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : ¬cond0_0 i) (hc1 : ¬cond0_1 i) (hc2 : ¬cond0_2 i) (hc3 : ¬cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (xs0 : Vec F S264x1536 .f32) (xs1 : Vec F S2x128x512 .f32) (xs2 : Vec F S264x1024 .f32) (xs3 : Vec F S8x1024 .f32) : Vec F S2x128x512 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).2.2.2.1)

/-- Case B's pieces for scratch `arg24`, which the kernel carries between points, cover it: 2 pieces (stores and landed copies) of several sizes (`S256x1024`, `S8x1024`) tiling it when cut into blocks of `![8, 1024]` (Lib/Ring.lean `Piece.tiledBy`). -/
theorem scover0_B_2 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : ¬cond0_0 i) (hc1 : ¬cond0_1 i) (hc2 : ¬cond0_2 i) (hc3 : ¬cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (xs0 : Vec F S264x1536 .f32) (xs1 : Vec F S2x128x512 .f32) (xs2 : Vec F S264x1024 .f32) (xs3 : Vec F S8x1024 .f32) (y : S264x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).2.2.2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).2.2.2.2.1 ![8, 1024] (by sl_kernel_rfl) y

/-- What case B leaves in scratch `arg24`: its pieces read back over junk. -/
def sout0_B_2 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : ¬cond0_0 i) (hc1 : ¬cond0_1 i) (hc2 : ¬cond0_2 i) (hc3 : ¬cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (xs0 : Vec F S264x1536 .f32) (xs1 : Vec F S2x128x512 .f32) (xs2 : Vec F S264x1024 .f32) (xs3 : Vec F S8x1024 .f32) : Vec F S264x1024 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).2.2.2.2.1)

/-- What case B leaves in scratch `arg25`: its pieces (stores, a counted loop's segment) read back over what the point before left there, which it read first. -/
def sout0_B_3 (c : Dev nD) (i : grid0.Coords) (arg2 : Memref sig .tc .vmem S1x256x1536 .bf16) (harg2 : arg2.IsWhole) (arg3 : Memref sig .tc .vmem S1x256x1024 .bf16) (harg3 : arg3.IsWhole) (arg4 : Memref sig .tc .vmem S1x256x128 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S4x1024 .f32) (harg14 : arg14.IsWhole) (arg15 : Memref sig .tc .vmem S1x1024 .f32) (harg15 : arg15.IsWhole) (arg16 : Memref sig .tc .vmem S8x128x256 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S264x1536 .f32) (harg22 : arg22.IsWhole) (arg23 : Memref sig .tc .vmem S2x128x512 .f32) (harg23 : arg23.IsWhole) (arg24 : Memref sig .tc .vmem S264x1024 .f32) (harg24 : arg24.IsWhole) (arg25 : Memref sig .tc .vmem S8x1024 .f32) (harg25 : arg25.IsWhole) (hc0 : ¬cond0_0 i) (hc1 : ¬cond0_1 i) (hc2 : ¬cond0_2 i) (hc3 : ¬cond0_3 i)
    (x0 : Vec F S1x256x1536 .bf16) (x1 : Vec F S1x256x1024 .bf16) (x2 : Vec F S1x256x128 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .bf16) (x10 : Vec F S1x256x1024 .bf16) (x11 : Vec F S1x256x1024 .bf16) (x12 : Vec F S4x1024 .f32) (x13 : Vec F S1x1024 .f32) (x14 : Vec F S8x128x256 .bf16) (x15 : Vec F S1x1024 .f32) (x16 : Vec F S1x1024 .f32) (x17 : Vec F S1x1024 .f32) (xs0 : Vec F S264x1536 .f32) (xs1 : Vec F S2x128x512 .f32) (xs2 : Vec F S264x1024 .f32) (xs3 : Vec F S8x1024 .f32) : Vec F S8x1024 .f32 :=
  arg25.view.read (Elt F) (arg25.view.writes (Elt F) (harg25.unread xs3) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 x14 x15 x16 x17 xs0 xs1 xs2 xs3).2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1024 .bf16 × Vec F S1x256x1024 .bf16 × Vec F S264x1536 .f32 × Vec F S2x128x512 .f32 × Vec F S264x1024 .f32 × Vec F S8x1024 .f32
  | 0, hn => (out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) ((hcond0_3 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) ((hcond0_3 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) ((hcond0_3 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) ((hcond0_3 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) ((hcond0_3 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) ((hcond0_3 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩))
  | n + 1, hn =>
    if h0 : (n + 1) % 17 = 0 then
      if h1 : (n + 1) % 17 = 0 then
        if h2 : (n + 1) % 17 = 0 then
          if h3 : (n + 1) % 17 = 0 then
            (out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩))
          else
            False.elim (by have hN : n + 1 < 272 := lt_of_lt_of_eq hn (show cfg0.N = 272 from N_0); omega)
        else
          False.elim (by have hN : n + 1 < 272 := lt_of_lt_of_eq hn (show cfg0.N = 272 from N_0); omega)
      else
        False.elim (by have hN : n + 1 < 272 := lt_of_lt_of_eq hn (show cfg0.N = 272 from N_0); omega)
    else
      if h1 : (n + 1) % 17 = 0 then
        False.elim (by have hN : n + 1 < 272 := lt_of_lt_of_eq hn (show cfg0.N = 272 from N_0); omega)
      else
        if h2 : (n + 1) % 17 = 0 then
          False.elim (by have hN : n + 1 < 272 := lt_of_lt_of_eq hn (show cfg0.N = 272 from N_0); omega)
        else
          if h3 : (n + 1) % 17 = 0 then
            False.elim (by have hN : n + 1 < 272 := lt_of_lt_of_eq hn (show cfg0.N = 272 from N_0); omega)
          else
            (out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 17 = 0) (h1 : t.val % 17 = 0) (h2 : t.val % 17 = 0) (h3 : t.val % 17 = 0) :
    outsAt0 m c t.val t.isLt = (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  obtain ⟨n, hn⟩ := t
  cases n with
  | zero => exact rfl
  | succ n => exact (dif_pos h0).trans ((dif_pos h1).trans ((dif_pos h2).trans ((dif_pos h3).trans rfl)))

/-- `outsAt0` at a point of case B: that case's contents, over what the point before left. -/
theorem outsAt0_B (c : Dev nD) (t : Fin cfg0.N) (h0 : ¬t.val % 17 = 0) (h1 : ¬t.val % 17 = 0) (h2 : ¬t.val % 17 = 0) (h3 : ¬t.val % 17 = 0) :
    outsAt0 m c t.val t.isLt = (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2.1) ∗ owns (c : Thread nD τ) scM0_3 fullShare ((outsAt0 m c (n - 1) (by omega)).2.2.2.2.2)) ∗ (∃ r, prngReg c r)) := by
  cases n with
  | zero => exact absurd rfl hz
  | succ n => rfl

end Cert.Kernel7Ideal.Gen

end
-- ==== Proof.RecFrameIdeal.lean ====
/- The frame of the scan call (over the reals): the body’s runs composed over the grid, then the call and the host code around it. -/
module

public import proofs.«01_k».proof.Proof.RecDataIdeal
public import Idealize.ShloMosaic.Lib.Claim

@[expose] public section

-- the buffers have long axes
set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t.val t.isLt).1
    | ⟨19, _⟩ => (outsAt0 m c t.val t.isLt).2.1
    | ⟨_ + 20, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t.val t.isLt).1 := by dsimp only [dats]
theorem after0_19 (c : Dev nD) (t : Fin cfg0.N) : (dats m 0 c).after 19 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ]
  have hN : t.val < 272 := lt_of_lt_of_eq t.isLt (show cfg0.N = 272 from N_0)
  by_cases h0 : t.val % 17 = 0
  · by_cases h1 : t.val % 17 = 0
    · by_cases h2 : t.val % 17 = 0
      · by_cases h3 : t.val % 17 = 0
        · by_cases hz : t.val = 0
          · rw [PhiS_castSucc m c t, PhiS_zero m c _ _ hz, PhiA0_eq]
            rw [outsAt0_A m c t h0 h1 h2 h3]
            unfold out0_A_18 out0_A_19 sout0_A_0 sout0_A_1 sout0_A_2 sout0_A_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
            iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexists _; iexact H18
            isplitl [H19]; · iexists _; iexact H19
            isplitl [HS0]; · iexact HS0
            isplitl [HS1]; · iexact HS1
            isplitl [HS2]; · iexact HS2
            isplitl [HS3]; · iexact HS3
            iintro ⟨H0, H1, H2, H3, H4, H5, H6, H7, H8, H9, H10, H11, H12, H13, H14, H15, H16, H17, ⟨%e18, H18⟩, ⟨%e19, H19⟩, ⟨%es0, HS0⟩, ⟨%es1, HS1⟩, ⟨%es2, HS2⟩, ⟨%es3, HS3⟩⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]
            · unfold owns; iexists _; isplitr
              swap; · iexact H18
              ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H19
            ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          · rw [PhiS_castSucc m c t, PhiS_pos m c _ _ hz]
            rw [outsAt0_A m c t h0 h1 h2 h3]
            unfold out0_A_18 out0_A_19 sout0_A_0 sout0_A_1 sout0_A_2 sout0_A_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
            iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexists _; iexact H18
            isplitl [H19]; · iexists _; iexact H19
            isplitl [HS0]; · iexists _; iexact HS0
            isplitl [HS1]; · iexists _; iexact HS1
            isplitl [HS2]; · iexists _; iexact HS2
            isplitl [HS3]; · iexists _; iexact HS3
            iintro ⟨H0, H1, H2, H3, H4, H5, H6, H7, H8, H9, H10, H11, H12, H13, H14, H15, H16, H17, ⟨%e18, H18⟩, ⟨%e19, H19⟩, ⟨%es0, HS0⟩, ⟨%es1, HS1⟩, ⟨%es2, HS2⟩, ⟨%es3, HS3⟩⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]
            · unfold owns; iexists _; isplitr
              swap; · iexact H18
              ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H19
            ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        · exfalso; omega
      · exfalso; omega
    · exfalso; omega
  · by_cases h1 : t.val % 17 = 0
    · exfalso; omega
    · by_cases h2 : t.val % 17 = 0
      · exfalso; omega
      · by_cases h3 : t.val % 17 = 0
        · exfalso; omega
        · by_cases hz : t.val = 0
          · exfalso; have hN : t.val < 272 := lt_of_lt_of_eq t.isLt (show cfg0.N = 272 from N_0); omega
          · rw [PhiS_castSucc m c t, PhiS_pos m c _ _ hz]
            rw [outsAt0_B m c t h0 h1 h2 h3]
            unfold out0_B_18 out0_B_19 sout0_B_0 sout0_B_1 sout0_B_2 sout0_B_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
            iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _ _ _).2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexists _; iexact H18
            isplitl [H19]; · iexists _; iexact H19
            isplitl [HS0]; · iexact HS0
            isplitl [HS1]; · iexact HS1
            isplitl [HS2]; · iexact HS2
            isplitl [HS3]; · iexact HS3
            iintro ⟨H0, H1, H2, H3, H4, H5, H6, H7, H8, H9, H10, H11, H12, H13, H14, H15, H16, H17, ⟨%e18, H18⟩, ⟨%e19, H19⟩, ⟨%es0, HS0⟩, ⟨%es1, HS1⟩, ⟨%es2, HS2⟩, HS3⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                unfold owns; iexists _; isplitr
                swap; · iexact HS3
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]
            · unfold owns; iexists _; isplitr
              swap; · iexact H18
              ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H19
            ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 272 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_Kernel7Ideal`'s statement (Defs.lean) at any `F` — Proof.lean cites it at `Bits`:
    `theorem Cert.Proof.claim : Cert.Claim := ⟨Cert.Kernel7Ideal.Gen.facts, fun m ρ _ => Cert.Kernel7Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Kernel7Ideal.Gen

end
-- ==== Proof.Ref2.lean ====
module

public import proofs.«01_k».proof.Proof.Gen.Reference2Ideal.Run
public import Idealize.ShloMosaic.PureOps.Ideal

@[expose] public section

noncomputable section

namespace Cert.Reference2Ideal

open Cert.Reference2Ideal.Gen Idealize.ShloMosaic Idealize.ShloMosaic.TcCoe

/-- What the reference returns, of its arguments: the feed-forward residual block. -/
abbrev REF (a0 : FVec Ideal S69632x1024 .f32) (a1 : FVec Ideal S1024 .f32) (a2 : FVec Ideal S1024x5632 .f32) (a3 : FVec Ideal S2816x1024 .f32) (a4 : FVec Ideal S1024 .f32) : FVec Ideal S69632x1024 .f32 :=
  addf a0 (mulf (broadcastInDim S69632x1024 ![] bcast_S_S69632x1024 (constant S_ .f32 0x3F000000#32)) (Host.dotGeneral
    dot_S69632x2816_S2816x1024_S69632x1024_1_0_0_1_n_n none (mulf (mulf (extractStridedSlice S69632x2816 ![0, 0] (Host.dotGeneral
    dot_S69632x1024_S1024x5632_S69632x5632_1_0_0_1_n_n none (mulf (mulf a0 (broadcastInDim S69632x1024 ![0, 1]
    bcast_S69632x1_S69632x1024_0_1 (Host.rsqrt (addf (Host.divf (broadcastInDim S69632x1 ![0] bcast_S69632_S69632x1_0
    (Host.reduceAdd (mulf a0 a0) (constant S_ .f32 0x00000000#32) reducesTo_S69632x1024_S69632_d1 h_S_)) (broadcastInDim S69632x1
    ![] bcast_S_S69632x1 (constant S_ .f32 0x44800000#32))) (broadcastInDim S69632x1 ![] bcast_S_S69632x1 (constant S_ .f32
    0x358637BD#32)))))) (broadcastInDim S69632x1024 ![0, 1] bcast_S1x1024_S69632x1024_0_1 (broadcastInDim S1x1024 ![1]
    bcast_S1024_S1x1024_1 a1))) a2) slices_S69632x5632_S69632x2816_0_0) (Host.divf (broadcastInDim S69632x2816 ![]
    bcast_S_S69632x2816 (constant S_ .f32 0x3F800000#32)) (addf (broadcastInDim S69632x2816 ![] bcast_S_S69632x2816 (constant S_
    .f32 0x3F800000#32)) (Host.exp (Host.negf (extractStridedSlice S69632x2816 ![0, 0] (Host.dotGeneral
    dot_S69632x1024_S1024x5632_S69632x5632_1_0_0_1_n_n none (mulf (mulf a0 (broadcastInDim S69632x1024 ![0, 1]
    bcast_S69632x1_S69632x1024_0_1 (Host.rsqrt (addf (Host.divf (broadcastInDim S69632x1 ![0] bcast_S69632_S69632x1_0
    (Host.reduceAdd (mulf a0 a0) (constant S_ .f32 0x00000000#32) reducesTo_S69632x1024_S69632_d1 h_S_)) (broadcastInDim S69632x1
    ![] bcast_S_S69632x1 (constant S_ .f32 0x44800000#32))) (broadcastInDim S69632x1 ![] bcast_S_S69632x1 (constant S_ .f32
    0x358637BD#32)))))) (broadcastInDim S69632x1024 ![0, 1] bcast_S1x1024_S69632x1024_0_1 (broadcastInDim S1x1024 ![1]
    bcast_S1024_S1x1024_1 a1))) a2) slices_S69632x5632_S69632x2816_0_0)))))) (extractStridedSlice S69632x2816 ![0, 2816]
    (Host.dotGeneral dot_S69632x1024_S1024x5632_S69632x5632_1_0_0_1_n_n none (mulf (mulf a0 (broadcastInDim S69632x1024 ![0, 1]
    bcast_S69632x1_S69632x1024_0_1 (Host.rsqrt (addf (Host.divf (broadcastInDim S69632x1 ![0] bcast_S69632_S69632x1_0
    (Host.reduceAdd (mulf a0 a0) (constant S_ .f32 0x00000000#32) reducesTo_S69632x1024_S69632_d1 h_S_)) (broadcastInDim S69632x1
    ![] bcast_S_S69632x1 (constant S_ .f32 0x44800000#32))) (broadcastInDim S69632x1 ![] bcast_S_S69632x1 (constant S_ .f32
    0x358637BD#32)))))) (broadcastInDim S69632x1024 ![0, 1] bcast_S1x1024_S69632x1024_0_1 (broadcastInDim S1x1024 ![1]
    bcast_S1024_S1x1024_1 a1))) a2) slices_S69632x5632_S69632x2816_0_2816)) a3))

/-- The hidden activation: the gate half times its sigmoid, times the up half. -/
def ACT (a0 : FVec Ideal S69632x1024 .f32) (a1 : FVec Ideal S1024 .f32) (a2 : FVec Ideal S1024x5632 .f32) : FVec Ideal S69632x2816 .f32 :=
  mulf (mulf (extractStridedSlice S69632x2816 ![0, 0] (Host.dotGeneral
    dot_S69632x1024_S1024x5632_S69632x5632_1_0_0_1_n_n none (mulf (mulf a0 (broadcastInDim S69632x1024 ![0, 1]
    bcast_S69632x1_S69632x1024_0_1 (Host.rsqrt (addf (Host.divf (broadcastInDim S69632x1 ![0] bcast_S69632_S69632x1_0
    (Host.reduceAdd (mulf a0 a0) (constant S_ .f32 0x00000000#32) reducesTo_S69632x1024_S69632_d1 h_S_)) (broadcastInDim S69632x1
    ![] bcast_S_S69632x1 (constant S_ .f32 0x44800000#32))) (broadcastInDim S69632x1 ![] bcast_S_S69632x1 (constant S_ .f32
    0x358637BD#32)))))) (broadcastInDim S69632x1024 ![0, 1] bcast_S1x1024_S69632x1024_0_1 (broadcastInDim S1x1024 ![1]
    bcast_S1024_S1x1024_1 a1))) a2) slices_S69632x5632_S69632x2816_0_0) (Host.divf (broadcastInDim S69632x2816 ![]
    bcast_S_S69632x2816 (constant S_ .f32 0x3F800000#32)) (addf (broadcastInDim S69632x2816 ![] bcast_S_S69632x2816 (constant S_
    .f32 0x3F800000#32)) (Host.exp (Host.negf (extractStridedSlice S69632x2816 ![0, 0] (Host.dotGeneral
    dot_S69632x1024_S1024x5632_S69632x5632_1_0_0_1_n_n none (mulf (mulf a0 (broadcastInDim S69632x1024 ![0, 1]
    bcast_S69632x1_S69632x1024_0_1 (Host.rsqrt (addf (Host.divf (broadcastInDim S69632x1 ![0] bcast_S69632_S69632x1_0
    (Host.reduceAdd (mulf a0 a0) (constant S_ .f32 0x00000000#32) reducesTo_S69632x1024_S69632_d1 h_S_)) (broadcastInDim S69632x1
    ![] bcast_S_S69632x1 (constant S_ .f32 0x44800000#32))) (broadcastInDim S69632x1 ![] bcast_S_S69632x1 (constant S_ .f32
    0x358637BD#32)))))) (broadcastInDim S69632x1024 ![0, 1] bcast_S1x1024_S69632x1024_0_1 (broadcastInDim S1x1024 ![1]
    bcast_S1024_S1x1024_1 a1))) a2) slices_S69632x5632_S69632x2816_0_0)))))) (extractStridedSlice S69632x2816 ![0, 2816]
    (Host.dotGeneral dot_S69632x1024_S1024x5632_S69632x5632_1_0_0_1_n_n none (mulf (mulf a0 (broadcastInDim S69632x1024 ![0, 1]
    bcast_S69632x1_S69632x1024_0_1 (Host.rsqrt (addf (Host.divf (broadcastInDim S69632x1 ![0] bcast_S69632_S69632x1_0
    (Host.reduceAdd (mulf a0 a0) (constant S_ .f32 0x00000000#32) reducesTo_S69632x1024_S69632_d1 h_S_)) (broadcastInDim S69632x1
    ![] bcast_S_S69632x1 (constant S_ .f32 0x44800000#32))) (broadcastInDim S69632x1 ![] bcast_S_S69632x1 (constant S_ .f32
    0x358637BD#32)))))) (broadcastInDim S69632x1024 ![0, 1] bcast_S1x1024_S69632x1024_0_1 (broadcastInDim S1x1024 ![1]
    bcast_S1024_S1x1024_1 a1))) a2) slices_S69632x5632_S69632x2816_0_2816)

/-- The reference is the residual plus half the activation through the second weight matrix. -/
theorem REF_eq (a0 : FVec Ideal S69632x1024 .f32) (a1 : FVec Ideal S1024 .f32) (a2 : FVec Ideal S1024x5632 .f32) (a3 : FVec Ideal S2816x1024 .f32) (a4 : FVec Ideal S1024 .f32) :
    REF a0 a1 a2 a3 a4 = addf a0 (mulf (broadcastInDim S69632x1024 ![] bcast_S_S69632x1024 (constant S_ .f32 0x3F000000#32)) (Host.dotGeneral
    dot_S69632x2816_S2816x1024_S69632x1024_1_0_0_1_n_n none (ACT a0 a1 a2) a3)) := rfl

end Cert.Reference2Ideal

end
-- ==== Proof.Ffn.lean ====
module

public import proofs.«01_k».proof.Proof.Gen.Kernel2Ideal.Value
public import proofs.«01_k».proof.Proof.Ref2
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ)

/-- The reference's term over the kernel's arguments. -/
abbrev RES (c : Dev nD) := Cert.Reference2Ideal.REF (m ((c : Thread nD τ).loc main_arg0)) (m ((c : Thread nD τ).loc main_arg1))
  (m ((c : Thread nD τ).loc main_arg2)) (m ((c : Thread nD τ).loc main_arg3)) (m ((c : Thread nD τ).loc main_arg4))

/-- Where every window's block lies at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The reference's hidden activation over the kernel's arguments. -/
def HID (c : Dev nD) := Cert.Reference2Ideal.ACT (m ((c : Thread nD τ).loc main_arg0)) (m ((c : Thread nD τ).loc main_arg1))
  (m ((c : Thread nD τ).loc main_arg2))

set_option maxHeartbeats 1600000 in
/-- One tile of 256 lanes of the hidden activation, from the columns of the two weight halves at lane offset `o`. -/
theorem tile (c : Dev nD) (t : Fin cfg0.N) (o : Nat) (ho : o + 256 ≤ 2816)
    (hA : ∀ a, (![0, o] : Fin 2 → Nat) a + S1024x256.size a ≤ S1024x5632.size a)
    (hB : ∀ a, (![0, 2816 + o] : Fin 2 → Nat) a + S1024x256.size a ≤ S1024x5632.size a)
    (x : S1024x256.Idx) (j : Cert.Reference2Ideal.S69632x2816.Idx)
    (h0 : (j 0 : Nat) = 1024 * t.val + x 0) (h1 : (j 1 : Nat) = o + x 1) :
    k0_pay7 (k0_pay3 (iblk m c 0 t) (iblk m c 1 t)) (View.ld (iblk m c 2 t) (Rect.unit ![0, o] S1024x256.size hA))
      (View.ld (iblk m c 2 t) (Rect.unit ![0, 2816 + o] S1024x256.size hB)) x = HID m c j := by
  pointwise [k0_pay7, k0_pay3, HID, Cert.Reference2Ideal.ACT]
  have hz : ∀ x : EReal, 0 - x = -x := zero_sub
  blk_point [iblk, V, idx t]
  all_goals
    refine congrArg Ideal.exp ((hz _).trans (congrArg Neg.neg ?_))
    blk_point [iblk, V, idx t]
    entry_read
    pointwise
    all_goals blk_ext [idx t]

set_option maxHeartbeats 1600000 in
/-- One block of the result, from the block's hidden activation. -/
theorem point (c : Dev nD) (t : Fin cfg0.N) (H : S1024x2816.Idx → EReal)
    (hH : ∀ (i : S1024x2816.Idx) (j : Cert.Reference2Ideal.S69632x2816.Idx), (j 0 : Nat) = 1024 * t.val + i 0 → (j 1 : Nat) = i 1 → H i = HID m c j)
    (y : S1024x1024.Idx) (z : S69632x1024.Idx) (h0 : (z 0 : Nat) = 1024 * t.val + y 0) (h1 : (z 1 : Nat) = y 1) :
    k0_pay2 (F := Ideal) (iblk m c 0 t) H (iblk m c 3 t) y = RES m c z := by
  rw [RES, Cert.Reference2Ideal.REF_eq]; rw [← HID]
  pointwise [k0_pay2]
  generalize HID m c = G at hH ⊢
  blk_point [iblk, V, idx t]
  exact hH _ _ h0 rfl

set_option maxHeartbeats 1600000 in
/-- The result array after the run is the reference's term. -/
theorem final (c : Dev nD) : (dats m 0 c).arrAt 5 (cfgs 0).N = RES m c := by
  refine (dats m 0 c).arrAt_eq_of_covers 5 _ (by decide +kernel) fun t _ y => ?_
  blk_simp
  rw [after0_5]; unfold outsAt0; frame_out
  refine point m c t _ (fun i j h0' h1' => ?_) y _ ?_ ?_
  · rw [View.readCov_eq_canon']
    canon_tiles x h
    all_goals
      refine tile m c t _ (by decide) (by decide) (by decide) x j ?_ ?_
      · rw [h0', ← h0]; simp
      · rw [h1', ← h1]; simp
  all_goals blk_simp [idx t]
  all_goals simp [Nat.mul_comm]

end Cert.Kernel2Ideal.Ffn

end
-- ==== Proof.Ref3.lean ====
module

public import proofs.«01_k».proof.Proof.Gen.Reference3Ideal.Run
public import Idealize.ShloMosaic.PureOps.Ideal

@[expose] public section

noncomputable section

namespace Cert.Reference3Ideal

open Cert.Reference3Ideal.Gen Idealize.ShloMosaic Idealize.ShloMosaic.TcCoe

/-- What the reference returns, of its arguments: the last feed-forward residual block and the final norm. -/
abbrev REF (a0 : FVec Ideal S69632x1024 .f32) (a1 : FVec Ideal S1024 .f32) (a2 : FVec Ideal S1024x5632 .f32) (a3 : FVec Ideal S2816x1024 .f32) (a4 : FVec Ideal S1024 .f32) : FVec Ideal S16x4096x1024 .f32 :=
  extractStridedSlice S16x4096x1024 ![0, 16, 0] (mulf (mulf (addf (shapeCast _ a0 shapeCasts_S69632x1024_S16x4352x1024) (mulf
    (broadcastInDim S16x4352x1024 ![] bcast_S_S16x4352x1024 (constant S_ .f32 0x3F000000#32)) (Host.dotGeneral
    dot_S16x4352x2816_S2816x1024_S16x4352x1024_2_0_01_1_n_n none (mulf (mulf (extractStridedSlice S16x4352x2816 ![0, 0, 0]
    (Host.dotGeneral dot_S16x4352x1024_S1024x5632_S16x4352x5632_2_0_01_1_n_n none (mulf (mulf (shapeCast _ a0
    shapeCasts_S69632x1024_S16x4352x1024) (broadcastInDim S16x4352x1024 ![0, 1, 2] bcast_S16x4352x1_S16x4352x1024_0_1_2
    (Host.rsqrt (addf (Host.divf (broadcastInDim S16x4352x1 ![0, 1] bcast_S16x4352_S16x4352x1_0_1 (Host.reduceAdd (mulf (shapeCast
    _ a0 shapeCasts_S69632x1024_S16x4352x1024) (shapeCast _ a0 shapeCasts_S69632x1024_S16x4352x1024)) (constant S_ .f32
    0x00000000#32) reducesTo_S16x4352x1024_S16x4352_d2 h_S_)) (broadcastInDim S16x4352x1 ![] bcast_S_S16x4352x1 (constant S_ .f32
    0x44800000#32))) (broadcastInDim S16x4352x1 ![] bcast_S_S16x4352x1 (constant S_ .f32 0x358637BD#32)))))) (broadcastInDim
    S16x4352x1024 ![0, 1, 2] bcast_S1x1x1024_S16x4352x1024_0_1_2 (broadcastInDim S1x1x1024 ![2] bcast_S1024_S1x1x1024_2 a1))) a2)
    slices_S16x4352x5632_S16x4352x2816_0_0_0) (Host.divf (broadcastInDim S16x4352x2816 ![] bcast_S_S16x4352x2816 (constant S_ .f32
    0x3F800000#32)) (addf (broadcastInDim S16x4352x2816 ![] bcast_S_S16x4352x2816 (constant S_ .f32 0x3F800000#32)) (Host.exp
    (Host.negf (extractStridedSlice S16x4352x2816 ![0, 0, 0] (Host.dotGeneral
    dot_S16x4352x1024_S1024x5632_S16x4352x5632_2_0_01_1_n_n none (mulf (mulf (shapeCast _ a0 shapeCasts_S69632x1024_S16x4352x1024)
    (broadcastInDim S16x4352x1024 ![0, 1, 2] bcast_S16x4352x1_S16x4352x1024_0_1_2 (Host.rsqrt (addf (Host.divf (broadcastInDim
    S16x4352x1 ![0, 1] bcast_S16x4352_S16x4352x1_0_1 (Host.reduceAdd (mulf (shapeCast _ a0 shapeCasts_S69632x1024_S16x4352x1024)
    (shapeCast _ a0 shapeCasts_S69632x1024_S16x4352x1024)) (constant S_ .f32 0x00000000#32) reducesTo_S16x4352x1024_S16x4352_d2
    h_S_)) (broadcastInDim S16x4352x1 ![] bcast_S_S16x4352x1 (constant S_ .f32 0x44800000#32))) (broadcastInDim S16x4352x1 ![]
    bcast_S_S16x4352x1 (constant S_ .f32 0x358637BD#32)))))) (broadcastInDim S16x4352x1024 ![0, 1, 2]
    bcast_S1x1x1024_S16x4352x1024_0_1_2 (broadcastInDim S1x1x1024 ![2] bcast_S1024_S1x1x1024_2 a1))) a2)
    slices_S16x4352x5632_S16x4352x2816_0_0_0)))))) (extractStridedSlice S16x4352x2816 ![0, 0, 2816] (Host.dotGeneral
    dot_S16x4352x1024_S1024x5632_S16x4352x5632_2_0_01_1_n_n none (mulf (mulf (shapeCast _ a0 shapeCasts_S69632x1024_S16x4352x1024)
    (broadcastInDim S16x4352x1024 ![0, 1, 2] bcast_S16x4352x1_S16x4352x1024_0_1_2 (Host.rsqrt (addf (Host.divf (broadcastInDim
    S16x4352x1 ![0, 1] bcast_S16x4352_S16x4352x1_0_1 (Host.reduceAdd (mulf (shapeCast _ a0 shapeCasts_S69632x1024_S16x4352x1024)
    (shapeCast _ a0 shapeCasts_S69632x1024_S16x4352x1024)) (constant S_ .f32 0x00000000#32) reducesTo_S16x4352x1024_S16x4352_d2
    h_S_)) (broadcastInDim S16x4352x1 ![] bcast_S_S16x4352x1 (constant S_ .f32 0x44800000#32))) (broadcastInDim S16x4352x1 ![]
    bcast_S_S16x4352x1 (constant S_ .f32 0x358637BD#32)))))) (broadcastInDim S16x4352x1024 ![0, 1, 2]
    bcast_S1x1x1024_S16x4352x1024_0_1_2 (broadcastInDim S1x1x1024 ![2] bcast_S1024_S1x1x1024_2 a1))) a2)
    slices_S16x4352x5632_S16x4352x2816_0_0_2816)) a3))) (broadcastInDim S16x4352x1024 ![0, 1, 2]
    bcast_S16x4352x1_S16x4352x1024_0_1_2 (Host.rsqrt (addf (Host.divf (broadcastInDim S16x4352x1 ![0, 1]
    bcast_S16x4352_S16x4352x1_0_1 (Host.reduceAdd (mulf (addf (shapeCast _ a0 shapeCasts_S69632x1024_S16x4352x1024) (mulf
    (broadcastInDim S16x4352x1024 ![] bcast_S_S16x4352x1024 (constant S_ .f32 0x3F000000#32)) (Host.dotGeneral
    dot_S16x4352x2816_S2816x1024_S16x4352x1024_2_0_01_1_n_n none (mulf (mulf (extractStridedSlice S16x4352x2816 ![0, 0, 0]
    (Host.dotGeneral dot_S16x4352x1024_S1024x5632_S16x4352x5632_2_0_01_1_n_n none (mulf (mulf (shapeCast _ a0
    shapeCasts_S69632x1024_S16x4352x1024) (broadcastInDim S16x4352x1024 ![0, 1, 2] bcast_S16x4352x1_S16x4352x1024_0_1_2
    (Host.rsqrt (addf (Host.divf (broadcastInDim S16x4352x1 ![0, 1] bcast_S16x4352_S16x4352x1_0_1 (Host.reduceAdd (mulf (shapeCast
    _ a0 shapeCasts_S69632x1024_S16x4352x1024) (shapeCast _ a0 shapeCasts_S69632x1024_S16x4352x1024)) (constant S_ .f32
    0x00000000#32) reducesTo_S16x4352x1024_S16x4352_d2 h_S_)) (broadcastInDim S16x4352x1 ![] bcast_S_S16x4352x1 (constant S_ .f32
    0x44800000#32))) (broadcastInDim S16x4352x1 ![] bcast_S_S16x4352x1 (constant S_ .f32 0x358637BD#32)))))) (broadcastInDim
    S16x4352x1024 ![0, 1, 2] bcast_S1x1x1024_S16x4352x1024_0_1_2 (broadcastInDim S1x1x1024 ![2] bcast_S1024_S1x1x1024_2 a1))) a2)
    slices_S16x4352x5632_S16x4352x2816_0_0_0) (Host.divf (broadcastInDim S16x4352x2816 ![] bcast_S_S16x4352x2816 (constant S_ .f32
    0x3F800000#32)) (addf (broadcastInDim S16x4352x2816 ![] bcast_S_S16x4352x2816 (constant S_ .f32 0x3F800000#32)) (Host.exp
    (Host.negf (extractStridedSlice S16x4352x2816 ![0, 0, 0] (Host.dotGeneral
    dot_S16x4352x1024_S1024x5632_S16x4352x5632_2_0_01_1_n_n none (mulf (mulf (shapeCast _ a0 shapeCasts_S69632x1024_S16x4352x1024)
    (broadcastInDim S16x4352x1024 ![0, 1, 2] bcast_S16x4352x1_S16x4352x1024_0_1_2 (Host.rsqrt (addf (Host.divf (broadcastInDim
    S16x4352x1 ![0, 1] bcast_S16x4352_S16x4352x1_0_1 (Host.reduceAdd (mulf (shapeCast _ a0 shapeCasts_S69632x1024_S16x4352x1024)
    (shapeCast _ a0 shapeCasts_S69632x1024_S16x4352x1024)) (constant S_ .f32 0x00000000#32) reducesTo_S16x4352x1024_S16x4352_d2
    h_S_)) (broadcastInDim S16x4352x1 ![] bcast_S_S16x4352x1 (constant S_ .f32 0x44800000#32))) (broadcastInDim S16x4352x1 ![]
    bcast_S_S16x4352x1 (constant S_ .f32 0x358637BD#32)))))) (broadcastInDim S16x4352x1024 ![0, 1, 2]
    bcast_S1x1x1024_S16x4352x1024_0_1_2 (broadcastInDim S1x1x1024 ![2] bcast_S1024_S1x1x1024_2 a1))) a2)
    slices_S16x4352x5632_S16x4352x2816_0_0_0)))))) (extractStridedSlice S16x4352x2816 ![0, 0, 2816] (Host.dotGeneral
    dot_S16x4352x1024_S1024x5632_S16x4352x5632_2_0_01_1_n_n none (mulf (mulf (shapeCast _ a0 shapeCasts_S69632x1024_S16x4352x1024)
    (broadcastInDim S16x4352x1024 ![0, 1, 2] bcast_S16x4352x1_S16x4352x1024_0_1_2 (Host.rsqrt (addf (Host.divf (broadcastInDim
    S16x4352x1 ![0, 1] bcast_S16x4352_S16x4352x1_0_1 (Host.reduceAdd (mulf (shapeCast _ a0 shapeCasts_S69632x1024_S16x4352x1024)
    (shapeCast _ a0 shapeCasts_S69632x1024_S16x4352x1024)) (constant S_ .f32 0x00000000#32) reducesTo_S16x4352x1024_S16x4352_d2
    h_S_)) (broadcastInDim S16x4352x1 ![] bcast_S_S16x4352x1 (constant S_ .f32 0x44800000#32))) (broadcastInDim S16x4352x1 ![]
    bcast_S_S16x4352x1 (constant S_ .f32 0x358637BD#32)))))) (broadcastInDim S16x4352x1024 ![0, 1, 2]
    bcast_S1x1x1024_S16x4352x1024_0_1_2 (broadcastInDim S1x1x1024 ![2] bcast_S1024_S1x1x1024_2 a1))) a2)
    slices_S16x4352x5632_S16x4352x2816_0_0_2816)) a3))) (addf (shapeCast _ a0 shapeCasts_S69632x1024_S16x4352x1024) (mulf
    (broadcastInDim S16x4352x1024 ![] bcast_S_S16x4352x1024 (constant S_ .f32 0x3F000000#32)) (Host.dotGeneral
    dot_S16x4352x2816_S2816x1024_S16x4352x1024_2_0_01_1_n_n none (mulf (mulf (extractStridedSlice S16x4352x2816 ![0, 0, 0]
    (Host.dotGeneral dot_S16x4352x1024_S1024x5632_S16x4352x5632_2_0_01_1_n_n none (mulf (mulf (shapeCast _ a0
    shapeCasts_S69632x1024_S16x4352x1024) (broadcastInDim S16x4352x1024 ![0, 1, 2] bcast_S16x4352x1_S16x4352x1024_0_1_2
    (Host.rsqrt (addf (Host.divf (broadcastInDim S16x4352x1 ![0, 1] bcast_S16x4352_S16x4352x1_0_1 (Host.reduceAdd (mulf (shapeCast
    _ a0 shapeCasts_S69632x1024_S16x4352x1024) (shapeCast _ a0 shapeCasts_S69632x1024_S16x4352x1024)) (constant S_ .f32
    0x00000000#32) reducesTo_S16x4352x1024_S16x4352_d2 h_S_)) (broadcastInDim S16x4352x1 ![] bcast_S_S16x4352x1 (constant S_ .f32
    0x44800000#32))) (broadcastInDim S16x4352x1 ![] bcast_S_S16x4352x1 (constant S_ .f32 0x358637BD#32)))))) (broadcastInDim
    S16x4352x1024 ![0, 1, 2] bcast_S1x1x1024_S16x4352x1024_0_1_2 (broadcastInDim S1x1x1024 ![2] bcast_S1024_S1x1x1024_2 a1))) a2)
    slices_S16x4352x5632_S16x4352x2816_0_0_0) (Host.divf (broadcastInDim S16x4352x2816 ![] bcast_S_S16x4352x2816 (constant S_ .f32
    0x3F800000#32)) (addf (broadcastInDim S16x4352x2816 ![] bcast_S_S16x4352x2816 (constant S_ .f32 0x3F800000#32)) (Host.exp
    (Host.negf (extractStridedSlice S16x4352x2816 ![0, 0, 0] (Host.dotGeneral
    dot_S16x4352x1024_S1024x5632_S16x4352x5632_2_0_01_1_n_n none (mulf (mulf (shapeCast _ a0 shapeCasts_S69632x1024_S16x4352x1024)
    (broadcastInDim S16x4352x1024 ![0, 1, 2] bcast_S16x4352x1_S16x4352x1024_0_1_2 (Host.rsqrt (addf (Host.divf (broadcastInDim
    S16x4352x1 ![0, 1] bcast_S16x4352_S16x4352x1_0_1 (Host.reduceAdd (mulf (shapeCast _ a0 shapeCasts_S69632x1024_S16x4352x1024)
    (shapeCast _ a0 shapeCasts_S69632x1024_S16x4352x1024)) (constant S_ .f32 0x00000000#32) reducesTo_S16x4352x1024_S16x4352_d2
    h_S_)) (broadcastInDim S16x4352x1 ![] bcast_S_S16x4352x1 (constant S_ .f32 0x44800000#32))) (broadcastInDim S16x4352x1 ![]
    bcast_S_S16x4352x1 (constant S_ .f32 0x358637BD#32)))))) (broadcastInDim S16x4352x1024 ![0, 1, 2]
    bcast_S1x1x1024_S16x4352x1024_0_1_2 (broadcastInDim S1x1x1024 ![2] bcast_S1024_S1x1x1024_2 a1))) a2)
    slices_S16x4352x5632_S16x4352x2816_0_0_0)))))) (extractStridedSlice S16x4352x2816 ![0, 0, 2816] (Host.dotGeneral
    dot_S16x4352x1024_S1024x5632_S16x4352x5632_2_0_01_1_n_n none (mulf (mulf (shapeCast _ a0 shapeCasts_S69632x1024_S16x4352x1024)
    (broadcastInDim S16x4352x1024 ![0, 1, 2] bcast_S16x4352x1_S16x4352x1024_0_1_2 (Host.rsqrt (addf (Host.divf (broadcastInDim
    S16x4352x1 ![0, 1] bcast_S16x4352_S16x4352x1_0_1 (Host.reduceAdd (mulf (shapeCast _ a0 shapeCasts_S69632x1024_S16x4352x1024)
    (shapeCast _ a0 shapeCasts_S69632x1024_S16x4352x1024)) (constant S_ .f32 0x00000000#32) reducesTo_S16x4352x1024_S16x4352_d2
    h_S_)) (broadcastInDim S16x4352x1 ![] bcast_S_S16x4352x1 (constant S_ .f32 0x44800000#32))) (broadcastInDim S16x4352x1 ![]
    bcast_S_S16x4352x1 (constant S_ .f32 0x358637BD#32)))))) (broadcastInDim S16x4352x1024 ![0, 1, 2]
    bcast_S1x1x1024_S16x4352x1024_0_1_2 (broadcastInDim S1x1x1024 ![2] bcast_S1024_S1x1x1024_2 a1))) a2)
    slices_S16x4352x5632_S16x4352x2816_0_0_2816)) a3)))) (constant S_ .f32 0x00000000#32) reducesTo_S16x4352x1024_S16x4352_d2
    h_S_)) (broadcastInDim S16x4352x1 ![] bcast_S_S16x4352x1 (constant S_ .f32 0x44800000#32))) (broadcastInDim S16x4352x1 ![]
    bcast_S_S16x4352x1 (constant S_ .f32 0x358637BD#32)))))) (broadcastInDim S16x4352x1024 ![0, 1, 2]
    bcast_S1x1x1024_S16x4352x1024_0_1_2 (broadcastInDim S1x1x1024 ![2] bcast_S1024_S1x1x1024_2 a4)))
    slices_S16x4352x1024_S16x4096x1024_0_16_0

/-- The hidden activation: the gate half times its sigmoid, times the up half. -/
def ACT (a0 : FVec Ideal S69632x1024 .f32) (a1 : FVec Ideal S1024 .f32) (a2 : FVec Ideal S1024x5632 .f32) : FVec Ideal S16x4352x2816 .f32 :=
  mulf (mulf (extractStridedSlice S16x4352x2816 ![0, 0, 0] (Host.dotGeneral
    dot_S16x4352x1024_S1024x5632_S16x4352x5632_2_0_01_1_n_n none (mulf (mulf (shapeCast _ a0
    shapeCasts_S69632x1024_S16x4352x1024) (broadcastInDim S16x4352x1024 ![0, 1, 2] bcast_S16x4352x1_S16x4352x1024_0_1_2
    (Host.rsqrt (addf (Host.divf (broadcastInDim S16x4352x1 ![0, 1] bcast_S16x4352_S16x4352x1_0_1 (Host.reduceAdd (mulf
    (shapeCast _ a0 shapeCasts_S69632x1024_S16x4352x1024) (shapeCast _ a0 shapeCasts_S69632x1024_S16x4352x1024)) (constant S_
    .f32 0x00000000#32) reducesTo_S16x4352x1024_S16x4352_d2 h_S_)) (broadcastInDim S16x4352x1 ![] bcast_S_S16x4352x1 (constant
    S_ .f32 0x44800000#32))) (broadcastInDim S16x4352x1 ![] bcast_S_S16x4352x1 (constant S_ .f32 0x358637BD#32))))))
    (broadcastInDim S16x4352x1024 ![0, 1, 2] bcast_S1x1x1024_S16x4352x1024_0_1_2 (broadcastInDim S1x1x1024 ![2]
    bcast_S1024_S1x1x1024_2 a1))) a2) slices_S16x4352x5632_S16x4352x2816_0_0_0) (Host.divf (broadcastInDim S16x4352x2816 ![]
    bcast_S_S16x4352x2816 (constant S_ .f32 0x3F800000#32)) (addf (broadcastInDim S16x4352x2816 ![] bcast_S_S16x4352x2816
    (constant S_ .f32 0x3F800000#32)) (Host.exp (Host.negf (extractStridedSlice S16x4352x2816 ![0, 0, 0] (Host.dotGeneral
    dot_S16x4352x1024_S1024x5632_S16x4352x5632_2_0_01_1_n_n none (mulf (mulf (shapeCast _ a0
    shapeCasts_S69632x1024_S16x4352x1024) (broadcastInDim S16x4352x1024 ![0, 1, 2] bcast_S16x4352x1_S16x4352x1024_0_1_2
    (Host.rsqrt (addf (Host.divf (broadcastInDim S16x4352x1 ![0, 1] bcast_S16x4352_S16x4352x1_0_1 (Host.reduceAdd (mulf
    (shapeCast _ a0 shapeCasts_S69632x1024_S16x4352x1024) (shapeCast _ a0 shapeCasts_S69632x1024_S16x4352x1024)) (constant S_
    .f32 0x00000000#32) reducesTo_S16x4352x1024_S16x4352_d2 h_S_)) (broadcastInDim S16x4352x1 ![] bcast_S_S16x4352x1 (constant
    S_ .f32 0x44800000#32))) (broadcastInDim S16x4352x1 ![] bcast_S_S16x4352x1 (constant S_ .f32 0x358637BD#32))))))
    (broadcastInDim S16x4352x1024 ![0, 1, 2] bcast_S1x1x1024_S16x4352x1024_0_1_2 (broadcastInDim S1x1x1024 ![2]
    bcast_S1024_S1x1x1024_2 a1))) a2) slices_S16x4352x5632_S16x4352x2816_0_0_0)))))) (extractStridedSlice S16x4352x2816 ![0,
    0, 2816] (Host.dotGeneral dot_S16x4352x1024_S1024x5632_S16x4352x5632_2_0_01_1_n_n none (mulf (mulf (shapeCast _ a0
    shapeCasts_S69632x1024_S16x4352x1024) (broadcastInDim S16x4352x1024 ![0, 1, 2] bcast_S16x4352x1_S16x4352x1024_0_1_2
    (Host.rsqrt (addf (Host.divf (broadcastInDim S16x4352x1 ![0, 1] bcast_S16x4352_S16x4352x1_0_1 (Host.reduceAdd (mulf
    (shapeCast _ a0 shapeCasts_S69632x1024_S16x4352x1024) (shapeCast _ a0 shapeCasts_S69632x1024_S16x4352x1024)) (constant S_
    .f32 0x00000000#32) reducesTo_S16x4352x1024_S16x4352_d2 h_S_)) (broadcastInDim S16x4352x1 ![] bcast_S_S16x4352x1 (constant
    S_ .f32 0x44800000#32))) (broadcastInDim S16x4352x1 ![] bcast_S_S16x4352x1 (constant S_ .f32 0x358637BD#32))))))
    (broadcastInDim S16x4352x1024 ![0, 1, 2] bcast_S1x1x1024_S16x4352x1024_0_1_2 (broadcastInDim S1x1x1024 ![2]
    bcast_S1024_S1x1x1024_2 a1))) a2) slices_S16x4352x5632_S16x4352x2816_0_0_2816)

/-- The residual stream after the block: the hidden states plus half the feed-forward result. -/
def RESID (a0 : FVec Ideal S69632x1024 .f32) (a1 : FVec Ideal S1024 .f32) (a2 : FVec Ideal S1024x5632 .f32) (a3 : FVec Ideal S2816x1024 .f32) : FVec Ideal S16x4352x1024 .f32 :=
  addf (shapeCast _ a0 shapeCasts_S69632x1024_S16x4352x1024) (mulf (broadcastInDim S16x4352x1024 ![] bcast_S_S16x4352x1024
    (constant S_ .f32 0x3F000000#32)) (Host.dotGeneral dot_S16x4352x2816_S2816x1024_S16x4352x1024_2_0_01_1_n_n none (ACT a0 a1
    a2) a3))

/-- The reference is the normalized residual stream, without its first 16 rows and what lies past the sequence. -/
theorem REF_eq (a0 : FVec Ideal S69632x1024 .f32) (a1 : FVec Ideal S1024 .f32) (a2 : FVec Ideal S1024x5632 .f32) (a3 : FVec Ideal S2816x1024 .f32) (a4 : FVec Ideal S1024 .f32) :
    REF a0 a1 a2 a3 a4 =
  extractStridedSlice S16x4096x1024 ![0, 16, 0] (mulf (mulf (RESID a0 a1 a2 a3) (broadcastInDim S16x4352x1024 ![0, 1, 2]
    bcast_S16x4352x1_S16x4352x1024_0_1_2 (Host.rsqrt (addf (Host.divf (broadcastInDim S16x4352x1 ![0, 1]
    bcast_S16x4352_S16x4352x1_0_1 (Host.reduceAdd (mulf (RESID a0 a1 a2 a3) (RESID a0 a1 a2 a3)) (constant S_ .f32
    0x00000000#32) reducesTo_S16x4352x1024_S16x4352_d2 h_S_)) (broadcastInDim S16x4352x1 ![] bcast_S_S16x4352x1 (constant S_
    .f32 0x44800000#32))) (broadcastInDim S16x4352x1 ![] bcast_S_S16x4352x1 (constant S_ .f32 0x358637BD#32))))))
    (broadcastInDim S16x4352x1024 ![0, 1, 2] bcast_S1x1x1024_S16x4352x1024_0_1_2 (broadcastInDim S1x1x1024 ![2]
    bcast_S1024_S1x1x1024_2 a4))) slices_S16x4352x1024_S16x4096x1024_0_16_0 := rfl

end Cert.Reference3Ideal

end
-- ==== Proof.FfnLast.lean ====
module

public import proofs.«01_k».proof.Proof.Gen.Kernel3Ideal.Value
public import proofs.«01_k».proof.Proof.Ref3
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.FfnLast

open Cert.Kernel3Ideal Cert.Kernel3Ideal.Gen

variable (m : (ℓ : Loc nD τ sig) → Buf (Elt Ideal) ℓ)

/-- The reference's term over the kernel's arguments. -/
abbrev RES (c : Dev nD) := Cert.Reference3Ideal.REF (m ((c : Thread nD τ).loc main_arg0)) (m ((c : Thread nD τ).loc main_arg1))
  (m ((c : Thread nD τ).loc main_arg2)) (m ((c : Thread nD τ).loc main_arg3)) (m ((c : Thread nD τ).loc main_arg4))

/-- Where every window's block lies at every grid point; window 0 by the elements it begins at. -/
theorem idx : ∀ t : Fin cfg0.N, win0_0.index t = ![t.val / 4, 1024 * (t.val % 4) + 16, 0] ∧ win0_1.index t = ![0, 0]
    ∧ win0_2.index t = ![0, 0] ∧ win0_3.index t = ![0, 0] ∧ win0_4.index t = ![0, 0] ∧ win0_5.index t = ![t.val / 4, t.val % 4, 0] :=
  (by decide +kernel : ∀ t : Fin grid0.N, _)

/-- Where an element of window 0's block lies in its array. -/
theorem emb0 (t : Fin cfg0.N) (y : S1x1024x1024.Idx) :
    (((View.whole main_v4).slice (win0_0.rect t)).emb y 0 : ℕ) = t.val / 4 + y 0
    ∧ (((View.whole main_v4).slice (win0_0.rect t)).emb y 1 : ℕ) = 1024 * (t.val % 4) + 16 + y 1
    ∧ (((View.whole main_v4).slice (win0_0.rect t)).emb y 2 : ℕ) = y 2 := by
  have e := (idx t).1
  refine ⟨?_, ?_, ?_⟩
  · show win0_0.index t 0 + 1 * (y 0 : ℕ) = _; rw [e]; simp
  · show win0_0.index t 1 + 1 * (y 1 : ℕ) = _; rw [e]; simp
  · show win0_0.index t 2 + 1 * (y 2 : ℕ) = _; rw [e]; simp

/-- The reference's hidden activation over the kernel's arguments. -/
def HID (c : Dev nD) := Cert.Reference3Ideal.ACT (m ((c : Thread nD τ).loc main_arg0)) (m ((c : Thread nD τ).loc main_arg1))
  (m ((c : Thread nD τ).loc main_arg2))

set_option maxHeartbeats 1600000 in
/-- One tile of 256 lanes of the hidden activation, from the columns of the two weight halves at lane offset `o`. -/
theorem tile (c : Dev nD) (t : Fin cfg0.N) (o : Nat) (ho : o + 256 ≤ 2816)
    (hA : ∀ a, (![0, o] : Fin 2 → Nat) a + S1024x256.size a ≤ S1024x5632.size a)
    (hB : ∀ a, (![0, 2816 + o] : Fin 2 → Nat) a + S1024x256.size a ≤ S1024x5632.size a)
    (x' : S1024x256.Idx) (j : Cert.Reference3Ideal.S16x4352x2816.Idx)
    (h0 : (j 0 : Nat) = t.val / 4) (h1 : (j 1 : Nat) = 1024 * (t.val % 4) + 16 + x' 0) (h2 : (j 2 : Nat) = o + x' 1) :
    k0_pay6 (k0_pay4 (iblk m c 0 t) (iblk m c 1 t)) (View.ld (iblk m c 2 t) (Rect.unit ![0, o] S1024x256.size hA))
      (View.ld (iblk m c 2 t) (Rect.unit ![0, 2816 + o] S1024x256.size hB)) x' = HID m c j := by
  pointwise [k0_pay6, k0_pay4, k0_pay3, HID, Cert.Reference3Ideal.ACT]
  have hz : ∀ x : EReal, 0 - x = -x := zero_sub
  blk_point [iblk, V, idx t]
  rotate_left 2
  · refine congrArg Ideal.exp ((hz _).trans (congrArg Neg.neg ?_))
    blk_point [iblk, V, idx t]
    all_goals (entry_read; pointwise; blk_ext [idx t])
    all_goals simp only [(emb0 t _).1, (emb0 t _).2.1, (emb0 t _).2.2]
    · show (t.val / 4 + 0) * 4352 + (1024 * (t.val % 4) + 16 + (x' 0 : ℕ)) = _
      omega
    · rfl
  · simp only [(emb0 t _).1, (emb0 t _).2.1]
    show (t.val / 4 + 0) * 4352 + (1024 * (t.val % 4) + 16 + (x' 0 : ℕ)) = _
    omega
  · exact (emb0 t _).2.2

set_option maxHeartbeats 1600000 in
/-- One block of the result, from the block's hidden activation. -/
theorem point (c : Dev nD) (t : Fin cfg0.N) (H : S1024x2816.Idx → EReal)
    (hH : ∀ (i : S1024x2816.Idx) (j : Cert.Reference3Ideal.S16x4352x2816.Idx), (j 0 : Nat) = t.val / 4 →
      (j 1 : Nat) = 1024 * (t.val % 4) + 16 + i 0 → (j 2 : Nat) = i 1 → H i = HID m c j)
    (y : S1x1024x1024.Idx) (z : S16x4096x1024.Idx) (h0 : (z 0 : Nat) = t.val / 4)
    (h1 : (z 1 : Nat) = 1024 * (t.val % 4) + y 1) (h2 : (z 2 : Nat) = y 2) :
    k0_pay2 (F := Ideal) (k0_pay3 (iblk m c 0 t)) H (iblk m c 3 t) (iblk m c 4 t) y = RES m c z := by
  rw [RES, Cert.Reference3Ideal.REF_eq]
  pointwise [k0_pay2, k0_pay3, Cert.Reference3Ideal.RESID]
  rw [← HID]
  generalize HID m c = G at hH ⊢
  blk_point [iblk, V, idx t]
  all_goals try exact hH _ _ h0 (by show 16 + (z 1 : ℕ) = _; simp; omega) rfl
  all_goals simp only [(emb0 t _).1, (emb0 t _).2.1, (emb0 t _).2.2]
  all_goals first
    | omega
    | rfl
    | (show (t.val / 4 + 0) * 4352 + (1024 * (t.val % 4) + 16 + (y 1 : ℕ)) = _; omega)

set_option maxHeartbeats 1600000 in
/-- The result array after the run is the reference's term. -/
theorem final (c : Dev nD) : (dats m 0 c).arrAt 5 (cfgs 0).N = RES m c := by
  refine (dats m 0 c).arrAt_eq_of_covers 5 _ (by decide +kernel) fun t _ y => ?_
  blk_simp
  rw [after0_5]; unfold outsAt0; frame_out
  refine point m c t _ (fun i j h0' h1' h2' => ?_) y _ ?_ ?_ ?_
  · rw [View.readCov_eq_canon']
    canon_tiles x h
    all_goals
      refine tile m c t _ (by decide) (by decide) (by decide) x j h0' ?_ ?_
      · rw [h1', ← h0]; simp
      · rw [h2', ← h1]; simp
  all_goals blk_simp [idx t]
  all_goals simp [Nat.mul_comm]

end Cert.Kernel3Ideal.FfnLast

end
-- ==== Proof.Ref4.lean ====
module

public import proofs.«01_k».proof.Proof.Gen.Reference4Ideal.Run
public import Idealize.ShloMosaic.PureOps.Ideal

@[expose] public section

noncomputable section

namespace Cert.Reference4Ideal

open Cert.Reference4Ideal.Gen Idealize.ShloMosaic Idealize.ShloMosaic.TcCoe

/-- What the reference returns, of its arguments: the gated merge. -/
abbrev REF (a0 : FVec Ideal S69632x1024 .f32) (a1 : FVec Ideal S69632x1024 .bf16) (a2 : FVec Ideal S69632x1024 .bf16) (a3 : FVec Ideal S69632x1024 .bf16) (a4 : FVec Ideal S69632x3072 .bf16) (a5 : FVec Ideal S1024x1024 .f32) (a6 : FVec Ideal S1024x1024 .f32) (a7 : FVec Ideal S1024x1024 .f32) (a8 : FVec Ideal S1024x1024 .f32) : FVec Ideal S69632x1024 .f32 :=
  addf a0 (Host.dotGeneral dot_S69632x1024_S1024x1024_S69632x1024_1_0_0_1_n_n none (addf (addf (mulf (extractStridedSlice
    S69632x1024 ![0, 0] (Host.divf (broadcastInDim S69632x3072 ![] bcast_S_S69632x3072 (constant S_ .f32 0x3F800000#32)) (addf
    (broadcastInDim S69632x3072 ![] bcast_S_S69632x3072 (constant S_ .f32 0x3F800000#32)) (Host.exp (Host.negf (extf .f32 a4
    bitsLt_bf16_f32))))) slices_S69632x3072_S69632x1024_0_0) (Host.dotGeneral dot_S69632x1024_S1024x1024_S69632x1024_1_0_0_1_n_n
    none (extf .f32 a1 bitsLt_bf16_f32) a5)) (mulf (extractStridedSlice S69632x1024 ![0, 1024] (Host.divf (broadcastInDim
    S69632x3072 ![] bcast_S_S69632x3072 (constant S_ .f32 0x3F800000#32)) (addf (broadcastInDim S69632x3072 ![]
    bcast_S_S69632x3072 (constant S_ .f32 0x3F800000#32)) (Host.exp (Host.negf (extf .f32 a4 bitsLt_bf16_f32)))))
    slices_S69632x3072_S69632x1024_0_1024) (Host.dotGeneral dot_S69632x1024_S1024x1024_S69632x1024_1_0_0_1_n_n none (extf .f32 a2
    bitsLt_bf16_f32) a6))) (mulf (extractStridedSlice S69632x1024 ![0, 2048] (Host.divf (broadcastInDim S69632x3072 ![]
    bcast_S_S69632x3072 (constant S_ .f32 0x3F800000#32)) (addf (broadcastInDim S69632x3072 ![] bcast_S_S69632x3072 (constant S_
    .f32 0x3F800000#32)) (Host.exp (Host.negf (extf .f32 a4 bitsLt_bf16_f32))))) slices_S69632x3072_S69632x1024_0_2048)
    (Host.dotGeneral dot_S69632x1024_S1024x1024_S69632x1024_1_0_0_1_n_n none (extf .f32 a3 bitsLt_bf16_f32) a7))) a8)

end Cert.Reference4Ideal

end
-- ==== Proof.Merge.lean ====
module

public import proofs.«01_k».proof.Proof.Gen.Kernel4Ideal.Value
public import proofs.«01_k».proof.Proof.Ref4
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen

variable (m : (ℓ : Loc nD τ sig) → Buf (Elt Ideal) ℓ)

/-- The reference's term over the kernel's arguments. -/
abbrev RES (c : Dev nD) := Cert.Reference4Ideal.REF (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8))

/-- Where every window's block lies at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

set_option maxHeartbeats 1600000 in
/-- The result array after the run is the reference's term. -/
theorem final (c : Dev nD) : (dats m 0 c).arrAt 9 (cfgs 0).N = RES m c := by
  refine (dats m 0 c).arrAt_eq_of_covers 9 _ (by decide +kernel) fun t _ y => ?_
  blk_simp
  rw [after0_9]; frame_out
  pointwise [k0_pay1, k0_pay2, k0_pay3, k0_pay4, Cert.Reference4Ideal.REF]
  have hz : ∀ x : EReal, 0 - x = -x := zero_sub
  blk_point [iblk, V, idx t]
  all_goals
    refine congrArg Ideal.exp ((hz _).trans (congrArg Neg.neg ?_))
    blk_point [iblk, V, idx t]

end Cert.Kernel4Ideal.Merge

end
-- ==== Proof.Ref5.lean ====
module

public import proofs.«01_k».proof.Proof.Gen.Reference5Ideal.Run
public import Idealize.ShloMosaic.PureOps.Ideal

@[expose] public section

noncomputable section

namespace Cert.Reference5Ideal

open Cert.Reference5Ideal.Gen Idealize.ShloMosaic Idealize.ShloMosaic.TcCoe

/-- The normed hidden states of the reference, of its arguments. -/
abbrev U (a0 : FVec Ideal S69632x1024 .f32) (a1 : FVec Ideal S1024 .f32) : FVec Ideal S69632x1024 .f32 :=
  (mulf (mulf a0 (broadcastInDim S69632x1024 ![0, 1] bcast_S69632x1_S69632x1024_0_1 (Host.rsqrt (addf (Host.divf (broadcastInDim
    S69632x1 ![0] bcast_S69632_S69632x1_0 (Host.reduceAdd (mulf a0 a0) (constant S_ .f32 0x00000000#32)
    reducesTo_S69632x1024_S69632_d1 h_S_)) (broadcastInDim S69632x1 ![] bcast_S_S69632x1 (constant S_ .f32 0x44800000#32)))
    (broadcastInDim S69632x1 ![] bcast_S_S69632x1 (constant S_ .f32 0x358637BD#32)))))) (broadcastInDim S69632x1024 ![0, 1]
    bcast_S1x1024_S69632x1024_0_1 (broadcastInDim S1x1024 ![1] bcast_S1024_S1x1024_1 a1)))

/-- The reference's whole input projection. -/
abbrev PROJ (a0 : FVec Ideal S69632x1024 .f32) (a1 : FVec Ideal S1024 .f32) (a2 : FVec Ideal S1024x10784 .f32) : FVec Ideal S16x4352x10784 .f32 :=
  (Host.dotGeneral dot_S16x4352x1024_S1024x10784_S16x4352x10784_2_0_01_1_n_n none (shapeCast _ (U a0 a1)
    shapeCasts_S69632x1024_S16x4352x1024) a2)

/-- One result of the reference: the gate input of the state-space branch. -/
abbrev Z (a0 : FVec Ideal S69632x1024 .f32) (a1 : FVec Ideal S1024 .f32) (a2 : FVec Ideal S1024x10784 .f32) : FVec Ideal S16x4352x1024 .bf16 :=
  truncf .bf16 (extractStridedSlice S16x4352x1024 ![0, 0, 3088] (PROJ a0 a1 a2) slices_S16x4352x10784_S16x4352x1024_0_0_3088)
    bitsLt_bf16_f32

/-- One result of the reference: the convolved inputs of the state-space branch. -/
abbrev XBC (a0 : FVec Ideal S69632x1024 .f32) (a1 : FVec Ideal S1024 .f32) (a2 : FVec Ideal S1024x10784 .f32) : FVec Ideal S16x4352x1536 .bf16 :=
  truncf .bf16 (extractStridedSlice S16x4352x1536 ![0, 0, 4112] (PROJ a0 a1 a2) slices_S16x4352x10784_S16x4352x1536_0_0_4112)
    bitsLt_bf16_f32

/-- One result of the reference: the input of the gated recurrence. -/
abbrev XR (a0 : FVec Ideal S69632x1024 .f32) (a1 : FVec Ideal S1024 .f32) (a2 : FVec Ideal S1024x10784 .f32) : FVec Ideal S16x4352x1024 .bf16 :=
  truncf .bf16 (extractStridedSlice S16x4352x1024 ![0, 0, 5664] (PROJ a0 a1 a2) slices_S16x4352x10784_S16x4352x1024_0_0_5664)
    bitsLt_bf16_f32

/-- One result of the reference: the gate of the gated recurrence. -/
abbrev GATE (a0 : FVec Ideal S69632x1024 .f32) (a1 : FVec Ideal S1024 .f32) (a2 : FVec Ideal S1024x10784 .f32) : FVec Ideal S16x4352x1024 .bf16 :=
  truncf .bf16 (extractStridedSlice S16x4352x1024 ![0, 0, 6688] (PROJ a0 a1 a2) slices_S16x4352x10784_S16x4352x1024_0_0_6688)
    bitsLt_bf16_f32

/-- One result of the reference: the merge logits. -/
abbrev MERGE (a0 : FVec Ideal S69632x1024 .f32) (a1 : FVec Ideal S1024 .f32) (a2 : FVec Ideal S1024x10784 .f32) : FVec Ideal S16x4352x3072 .bf16 :=
  truncf .bf16 (extractStridedSlice S16x4352x3072 ![0, 0, 7712] (PROJ a0 a1 a2) slices_S16x4352x10784_S16x4352x3072_0_0_7712)
    bitsLt_bf16_f32

/-- One result of the reference: the forget logits and the step sizes, padded with zeros. -/
abbrev FDT (a0 : FVec Ideal S69632x1024 .f32) (a1 : FVec Ideal S1024 .f32) (a2 : FVec Ideal S1024x10784 .f32) : FVec Ideal S16x4352x128 .f32 :=
  pad S16x4352x128 ![0, 0, 0] ![0, 0, 96] ![0, 0, 0] (concatenate S16x4352x32 2 [⟨S16x4352x16, (extractStridedSlice S16x4352x16
    ![0, 0, 3072] (PROJ a0 a1 a2) slices_S16x4352x10784_S16x4352x16_0_0_3072)⟩, ⟨S16x4352x16, (extractStridedSlice S16x4352x16
    ![0, 0, 5648] (PROJ a0 a1 a2) slices_S16x4352x10784_S16x4352x16_0_0_5648)⟩]
    concatenates_S16x4352x16_S16x4352x16_S16x4352x32_d2) (sitofp .f32 (constantI S_ 32 0#32))
    pads_S16x4352x32_S16x4352x128_000_000_0960 h_S_

end Cert.Reference5Ideal

end
-- ==== Proof.InProjRead.lean ====
module

public import proofs.«01_k».proof.Proof.Gen.Kernel5Ideal.Frame
public import proofs.«01_k».proof.Proof.Ref5
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.InProj

open Cert.Kernel5Ideal Cert.Kernel5Ideal.Gen

variable (m : (ℓ : Loc nD τ sig) → Buf (Elt Ideal) ℓ)

/-- The reference's projection over the kernel's arguments. -/
def PRJ (c : Dev nD) := Cert.Reference5Ideal.PROJ (m ((c : Thread nD τ).loc main_arg0)) (m ((c : Thread nD τ).loc main_arg1))
  (m ((c : Thread nD τ).loc main_arg2))

/-- Where the windows' blocks lie at every grid point. -/
theorem idx : ∀ t : Fin cfg0.N, win0_0.index t = ![t.val / 17, t.val % 17, 0] ∧ win0_1.index t = ![0, 0] ∧ win0_2.index t = ![0, 0]
    ∧ win0_9.index t = ![t.val / 17, t.val % 17, 0] ∧ win0_10.index t = ![t.val / 17, t.val % 17, 0]
    ∧ win0_11.index t = ![t.val / 17, t.val % 17, 0] ∧ win0_12.index t = ![t.val / 17, t.val % 17, 0]
    ∧ win0_13.index t = ![t.val / 17, t.val % 17, 0] ∧ win0_14.index t = ![t.val / 17, t.val % 17, 0] :=
  (by decide +kernel : ∀ t : Fin grid0.N, _)

set_option maxHeartbeats 1600000 in
/-- A word of the hidden states as the kernel's host code lays them out. -/
theorem read0 (c : Dev nD) (i : S16x4352x1024.Idx) (j : S69632x1024.Idx) (h0 : (j 0 : Nat) = i 0 * 4352 + i 1) (h1 : (j 1 : Nat) = i 2) :
    V m c main_v80 i = m ((c : Thread nD τ).loc main_arg0) j := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
  all_goals blk_ext

set_option maxHeartbeats 1600000 in
/-- A word of the norm's weights as the kernel's host code lays them out. -/
theorem read1 (c : Dev nD) (i : S1x1024.Idx) (j : S1024.Idx) (h : (j 0 : Nat) = i 1) :
    V m c main_v17 i = m ((c : Thread nD τ).loc main_arg1) j := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
  all_goals blk_ext

theorem after_append (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- The host operations after the first stretch leave the kernel's weights alone. -/
theorem vW0 (c : Dev nD) : V m c main_v12 = StableHlo.after (hostOps0 (F := Ideal)) (fun b => m (c, b)) main_v12 := by
  refine (congrFun (after_append hostOps0 (List.flatten [hostOps0_1, hostOps0_2, hostOps0_3, hostOps0_4, hostOps0_5, hostOps0_6, hostOps0_7, hostOps0_8, hostOps0_9, hostOps0_10, hostOps0_11, hostOps0_12]) _) _).trans ?_
  exact StableHlo.after_of_forall_not_mem (b := Proc.devRef .tc main_v12) _ _ (List.forall_iff_forall_mem.mp (by
    simp only [hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The buffers after the operations that cut the reference's weights into column groups. -/
def PRE (c : Dev nD) : Valuation τ sig (Elt Ideal) := StableHlo.after ((hostOps0 (F := Ideal)).take 12) (fun b => m (c, b))

theorem tail0 (σ : Valuation τ sig (Elt Ideal)) : StableHlo.after ((hostOps0 (F := Ideal)).drop 12) σ main_v12
    = StableHlo.after (((hostOps0 (F := Ideal)).drop 12).take 2) σ main_v12 := by
  refine (congrFun (after_append (((hostOps0 (F := Ideal)).drop 12).take 2) ((hostOps0 (F := Ideal)).drop 14) σ) _).trans ?_
  exact StableHlo.after_of_forall_not_mem (b := Proc.devRef .tc main_v12) _ _ (List.forall_iff_forall_mem.mp (by
    simp only [hostOps0, List.drop_succ_cons, List.drop_zero, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem tail (σ : Valuation τ sig (Elt Ideal)) : StableHlo.after ((hostOps0 (F := Ideal)).drop 12) σ main_v12
    = truncf (F := Ideal) .bf16 (concatenate S1024x8832 1 [⟨S1024x1024, σ main_v1⟩, ⟨S1024x1024, σ main_v4⟩, ⟨S1024x1536, σ main_v5⟩, ⟨S1024x1024, σ main_v7⟩, ⟨S1024x1024, σ main_v8⟩, ⟨S1024x3072, σ main_v9⟩, ⟨S1024x16, σ main_v3⟩, ⟨S1024x16, σ main_v6⟩, ⟨S1024x96, σ main_v10⟩] concatenates_S1024x1024_S1024x1024_S1024x1536_S1024x1024_S1024x1024_S1024x3072_S1024x16_S1024x16_S1024x96_S1024x8832_d1) bitsLt_bf16_f32 := by
  rw [tail0]
  simp only [hostOps0, List.drop_succ_cons, List.drop_zero, List.take_succ_cons, List.take_zero, StableHlo.after_cons, StableHlo.after_nil]
  rw [StableHlo.unary_result]
  exact congrArg (fun x => truncf (F := Ideal) .bf16 x bitsLt_bf16_f32)
    (StableHlo.nary_result ![main_v1, main_v4, main_v5, main_v7, main_v8, main_v9, main_v3, main_v6, main_v10] main_v11 _ _ _ _)

/-- The kernel's weights: the column groups in the kernel's order. -/
theorem vW (c : Dev nD) : V m c main_v12 = truncf (F := Ideal) .bf16 (concatenate S1024x8832 1 [⟨S1024x1024, PRE m c main_v1⟩, ⟨S1024x1024, PRE m c main_v4⟩, ⟨S1024x1536, PRE m c main_v5⟩, ⟨S1024x1024, PRE m c main_v7⟩, ⟨S1024x1024, PRE m c main_v8⟩, ⟨S1024x3072, PRE m c main_v9⟩, ⟨S1024x16, PRE m c main_v3⟩, ⟨S1024x16, PRE m c main_v6⟩, ⟨S1024x96, PRE m c main_v10⟩] concatenates_S1024x1024_S1024x1024_S1024x1536_S1024x1024_S1024x1024_S1024x3072_S1024x16_S1024x16_S1024x96_S1024x8832_d1) bitsLt_bf16_f32 := by
  rw [vW0, ← tail (PRE m c), PRE, ← after_append, List.take_append_drop]

theorem pre_v1 (c : Dev nD) : PRE m c main_v1 = extractStridedSlice S1024x1024 ![0, 1024] (m ((c : Thread nD τ).loc main_arg2)) slices_S1024x10784_S1024x1024_0_1024 := by
  simp only [PRE, hostOps0, List.take_succ_cons, List.take_zero]
  entry_read
  rfl

theorem pre_v4 (c : Dev nD) : PRE m c main_v4 = extractStridedSlice S1024x1024 ![0, 3088] (m ((c : Thread nD τ).loc main_arg2)) slices_S1024x10784_S1024x1024_0_3088 := by
  simp only [PRE, hostOps0, List.take_succ_cons, List.take_zero]
  entry_read
  rfl

theorem pre_v5 (c : Dev nD) : PRE m c main_v5 = extractStridedSlice S1024x1536 ![0, 4112] (m ((c : Thread nD τ).loc main_arg2)) slices_S1024x10784_S1024x1536_0_4112 := by
  simp only [PRE, hostOps0, List.take_succ_cons, List.take_zero]
  entry_read
  rfl

theorem pre_v7 (c : Dev nD) : PRE m c main_v7 = extractStridedSlice S1024x1024 ![0, 5664] (m ((c : Thread nD τ).loc main_arg2)) slices_S1024x10784_S1024x1024_0_5664 := by
  simp only [PRE, hostOps0, List.take_succ_cons, List.take_zero]
  entry_read
  rfl

theorem pre_v8 (c : Dev nD) : PRE m c main_v8 = extractStridedSlice S1024x1024 ![0, 6688] (m ((c : Thread nD τ).loc main_arg2)) slices_S1024x10784_S1024x1024_0_6688 := by
  simp only [PRE, hostOps0, List.take_succ_cons, List.take_zero]
  entry_read
  rfl

theorem pre_v9 (c : Dev nD) : PRE m c main_v9 = extractStridedSlice S1024x3072 ![0, 7712] (m ((c : Thread nD τ).loc main_arg2)) slices_S1024x10784_S1024x3072_0_7712 := by
  simp only [PRE, hostOps0, List.take_succ_cons, List.take_zero]
  entry_read
  rfl

theorem pre_v3 (c : Dev nD) : PRE m c main_v3 = extractStridedSlice S1024x16 ![0, 3072] (m ((c : Thread nD τ).loc main_arg2)) slices_S1024x10784_S1024x16_0_3072 := by
  simp only [PRE, hostOps0, List.take_succ_cons, List.take_zero]
  entry_read
  rfl

theorem pre_v6 (c : Dev nD) : PRE m c main_v6 = extractStridedSlice S1024x16 ![0, 5648] (m ((c : Thread nD τ).loc main_arg2)) slices_S1024x10784_S1024x16_0_5648 := by
  simp only [PRE, hostOps0, List.take_succ_cons, List.take_zero]
  entry_read
  rfl

theorem pre_v10 (c : Dev nD) : PRE m c main_v10 = broadcastInDim S1024x96 ![] bcast_S_S1024x96 (constant (F := Ideal) S_ .f32 0x00000000#32) := by
  simp only [PRE, hostOps0, List.take_succ_cons, List.take_zero]
  entry_read
  rfl

set_option maxHeartbeats 1600000 in
/-- The kernel's weights from column 1024 on are the reference's from column 3088 on. -/
theorem colZ (c : Dev nD) (i : S1024x8832.Idx) (j : S1024x10784.Idx) (h0 : (i 0 : Nat) = j 0) (ho : 1024 ≤ (i 1 : Nat)) (hl : (i 1 : Nat) < 2048)
    (h1 : (j 1 : Nat) + 1024 = 3088 + i 1) :
    V m c main_v12 i = m ((c : Thread nD τ).loc main_arg2) j := by
  rw [vW]
  pointwise
  rw [pre_v4]
  pointwise
  rw [dif_neg (by omega)]
  rw [dif_pos (by omega)]
  all_goals blk_ext

set_option maxHeartbeats 1600000 in
/-- The kernel's weights from column 2048 on are the reference's from column 4112 on. -/
theorem colXbc (c : Dev nD) (i : S1024x8832.Idx) (j : S1024x10784.Idx) (h0 : (i 0 : Nat) = j 0) (ho : 2048 ≤ (i 1 : Nat)) (hl : (i 1 : Nat) < 3584)
    (h1 : (j 1 : Nat) + 2048 = 4112 + i 1) :
    V m c main_v12 i = m ((c : Thread nD τ).loc main_arg2) j := by
  rw [vW]
  pointwise
  rw [pre_v5]
  pointwise
  rw [dif_neg (by omega)]
  rw [dif_neg (by omega)]
  rw [dif_pos (by omega)]
  all_goals blk_ext

set_option maxHeartbeats 1600000 in
/-- The kernel's weights from column 3584 on are the reference's from column 5664 on. -/
theorem colXr (c : Dev nD) (i : S1024x8832.Idx) (j : S1024x10784.Idx) (h0 : (i 0 : Nat) = j 0) (ho : 3584 ≤ (i 1 : Nat)) (hl : (i 1 : Nat) < 4608)
    (h1 : (j 1 : Nat) + 3584 = 5664 + i 1) :
    V m c main_v12 i = m ((c : Thread nD τ).loc main_arg2) j := by
  rw [vW]
  pointwise
  rw [pre_v7]
  pointwise
  rw [dif_neg (by omega)]
  rw [dif_neg (by omega)]
  rw [dif_neg (by omega)]
  rw [dif_pos (by omega)]
  all_goals blk_ext

set_option maxHeartbeats 1600000 in
/-- The kernel's weights from column 4608 on are the reference's from column 6688 on. -/
theorem colGate (c : Dev nD) (i : S1024x8832.Idx) (j : S1024x10784.Idx) (h0 : (i 0 : Nat) = j 0) (ho : 4608 ≤ (i 1 : Nat)) (hl : (i 1 : Nat) < 5632)
    (h1 : (j 1 : Nat) + 4608 = 6688 + i 1) :
    V m c main_v12 i = m ((c : Thread nD τ).loc main_arg2) j := by
  rw [vW]
  pointwise
  rw [pre_v8]
  pointwise
  rw [dif_neg (by omega)]
  rw [dif_neg (by omega)]
  rw [dif_neg (by omega)]
  rw [dif_neg (by omega)]
  rw [dif_pos (by omega)]
  all_goals blk_ext

set_option maxHeartbeats 1600000 in
/-- The kernel's weights from column 5632 on are the reference's from column 7712 on. -/
theorem colMerge (c : Dev nD) (i : S1024x8832.Idx) (j : S1024x10784.Idx) (h0 : (i 0 : Nat) = j 0) (ho : 5632 ≤ (i 1 : Nat)) (hl : (i 1 : Nat) < 8704)
    (h1 : (j 1 : Nat) + 5632 = 7712 + i 1) :
    V m c main_v12 i = m ((c : Thread nD τ).loc main_arg2) j := by
  rw [vW]
  pointwise
  rw [pre_v9]
  pointwise
  rw [dif_neg (by omega)]
  rw [dif_neg (by omega)]
  rw [dif_neg (by omega)]
  rw [dif_neg (by omega)]
  rw [dif_neg (by omega)]
  rw [dif_pos (by omega)]
  all_goals blk_ext

set_option maxHeartbeats 1600000 in
/-- The kernel's weights from column 8704 on are the reference's from column 3072 on. -/
theorem colF (c : Dev nD) (i : S1024x8832.Idx) (j : S1024x10784.Idx) (h0 : (i 0 : Nat) = j 0) (ho : 8704 ≤ (i 1 : Nat)) (hl : (i 1 : Nat) < 8720)
    (h1 : (j 1 : Nat) + 8704 = 3072 + i 1) :
    V m c main_v12 i = m ((c : Thread nD τ).loc main_arg2) j := by
  rw [vW]
  pointwise
  rw [pre_v3]
  pointwise
  rw [dif_neg (by omega)]
  rw [dif_neg (by omega)]
  rw [dif_neg (by omega)]
  rw [dif_neg (by omega)]
  rw [dif_neg (by omega)]
  rw [dif_neg (by omega)]
  rw [dif_pos (by omega)]
  all_goals blk_ext

set_option maxHeartbeats 1600000 in
/-- The kernel's weights from column 8720 on are the reference's from column 5648 on. -/
theorem colDt (c : Dev nD) (i : S1024x8832.Idx) (j : S1024x10784.Idx) (h0 : (i 0 : Nat) = j 0) (ho : 8720 ≤ (i 1 : Nat)) (hl : (i 1 : Nat) < 8736)
    (h1 : (j 1 : Nat) + 8720 = 5648 + i 1) :
    V m c main_v12 i = m ((c : Thread nD τ).loc main_arg2) j := by
  rw [vW]
  pointwise
  rw [pre_v6]
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  all_goals blk_ext

set_option maxHeartbeats 1600000 in
/-- The kernel's last weight columns are zeros. -/
theorem col0 (c : Dev nD) (i : S1024x8832.Idx) (ho : 8736 ≤ (i 1 : Nat)) (hl : (i 1 : Nat) < 8832) :
    V m c main_v12 i = (0 : EReal) := by
  rw [vW]
  pointwise
  rw [pre_v10]
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  all_goals blk_ext

end Cert.Kernel5Ideal.InProj

end
-- ==== Proof.InProj.lean ====
module

public import proofs.«01_k».proof.Proof.Gen.Kernel5Ideal.Frame
public import proofs.«01_k».proof.Proof.Ref5
public import Idealize.ShloMosaic.Lib.Pipeline.ValueKit
public import proofs.«01_k».proof.Proof.InProjRead

@[expose] public section

set_option maxRecDepth 16384

noncomputable section

open Idealize.ShloMosaic Idealize.ShloMosaic.TcCoe Idealize.SL.Sem
open Idealize.ShloMosaic.Pipeline (Dat)

namespace Cert.Kernel5Ideal.InProj

open Cert.Kernel5Ideal Cert.Kernel5Ideal.Gen

variable (m : (ℓ : Loc nD τ sig) → Buf (Elt Ideal) ℓ)

set_option maxHeartbeats 1600000 in
/-- One tile of 512 columns of the projection, from the columns of the kernel's weights at offset `o`. -/
theorem tile (c : Dev nD) (t : Fin cfg0.N) (o s : Nat)
    (hA : ∀ a, (![0, o] : Fin 2 → Nat) a + S1024x512.size a ≤ S1024x8832.size a)
    (hW : ∀ (i : S1024x8832.Idx) (j : S1024x10784.Idx), (i 0 : Nat) = j 0 → o ≤ (i 1 : Nat) → (i 1 : Nat) < o + 512 → (j 1 : Nat) + o = s + i 1 →
      V m c main_v12 i = m ((c : Thread nD τ).loc main_arg2) j)
    (x : S1x256x512.Idx) (j : Cert.Reference5Ideal.S16x4352x10784.Idx)
    (h0 : (j 0 : Nat) = t.val / 17) (h1 : (j 1 : Nat) = 256 * (t.val % 17) + x 1) (h2 : (j 2 : Nat) = s + x 2) :
    k0_pay8 (F := Ideal) (iblk m c 0 t) (iblk m c 1 t) (View.ld (iblk m c 2 t) (Rect.unit ![0, o] S1024x512.size hA)) x = PRJ m c j := by
  have hx : (x 2 : Nat) < 512 := (x 2).isLt
  pointwise [k0_pay8, k0_pay5, PRJ, Cert.Reference5Ideal.PROJ, Cert.Reference5Ideal.U]
  blk_point [iblk, idx t]
  · exact read0 m c _ _ (by blk_simp [idx t]; simp; omega) (by blk_simp [idx t])
  · exact read0 m c _ _ (by blk_simp [idx t]; simp; omega) (by blk_simp [idx t])
  · exact read1 m c _ _ (by blk_simp [idx t])
  · refine hW _ _ ?_ ?_ ?_ ?_
    · blk_simp [idx t]
    · blk_simp [idx t] <;> simp <;> omega
    · blk_simp [idx t] <;> simp <;> omega
    · blk_simp [idx t] <;> simp <;> omega

/-- The tile as the reference's `Z` has it. -/
theorem tileZ (c : Dev nD) (t : Fin cfg0.N) (o e : Nat) (ho : o = 1024 + e) (he : e + 512 ≤ 1024)
    (hA : ∀ a, (![0, o] : Fin 2 → Nat) a + S1024x512.size a ≤ S1024x8832.size a)
    (x : S1x256x512.Idx) (z : S16x4352x1024.Idx)
    (h0 : (z 0 : Nat) = t.val / 17) (h1 : (z 1 : Nat) = 256 * (t.val % 17) + x 1) (h2 : (z 2 : Nat) = e + x 2) :
    k0_pay8 (F := Ideal) (iblk m c 0 t) (iblk m c 1 t) (View.ld (iblk m c 2 t) (Rect.unit ![0, o] S1024x512.size hA)) x
      = Cert.Reference5Ideal.Z (m ((c : Thread nD τ).loc main_arg0)) (m ((c : Thread nD τ).loc main_arg1)) (m ((c : Thread nD τ).loc main_arg2)) z := by
  subst ho
  refine tile m c t _ (3088 + e) hA (fun i j g0 g1 g2 g3 => colZ m c i j g0 (by omega) (by omega) (by omega)) x _ ?_ ?_ ?_
  · exact (Nat.zero_add _).trans h0
  · exact (Nat.zero_add _).trans h1
  · exact (congrArg (3088 + ·) h2).trans (Nat.add_assoc _ _ _).symm

set_option maxHeartbeats 1600000 in
/-- The result array 9 after the run is the reference's term. -/
theorem final9 (c : Dev nD) : (dats m 0 c).arrAt 9 (cfgs 0).N
    = Cert.Reference5Ideal.Z (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  by_cases h0 : t.val % 17 = 0
  · rw [outsAt0_A m c t h0]; frame_out
    canon_tiles y h
    · refine tileZ m c t _ 512 (by decide) (by decide) (by decide) y _ ?_ ?_ ?_
      all_goals blk_simp [idx t]
      all_goals simp [Nat.mul_comm]
      all_goals omega
    · refine tileZ m c t _ 0 (by decide) (by decide) (by decide) y _ ?_ ?_ ?_
      all_goals blk_simp [idx t]
      all_goals simp [Nat.mul_comm]
      all_goals omega
  · rw [outsAt0_B m c t h0]; frame_out
    canon_tiles y h
    · refine tileZ m c t _ 512 (by decide) (by decide) (by decide) y _ ?_ ?_ ?_
      all_goals blk_simp [idx t]
      all_goals simp [Nat.mul_comm]
      all_goals omega
    · refine tileZ m c t _ 0 (by decide) (by decide) (by decide) y _ ?_ ?_ ?_
      all_goals blk_simp [idx t]
      all_goals simp [Nat.mul_comm]
      all_goals omega

end Cert.Kernel5Ideal.InProj

end
-- ==== Proof.InProjLogits.lean ====
module

public import proofs.«01_k».proof.Proof.Gen.Kernel5Ideal.Frame
public import proofs.«01_k».proof.Proof.Ref5
public import Idealize.ShloMosaic.Lib.Pipeline.ValueKit
public import proofs.«01_k».proof.Proof.InProjRead

@[expose] public section

set_option maxRecDepth 16384

noncomputable section

open Idealize.ShloMosaic Idealize.ShloMosaic.TcCoe Idealize.SL.Sem
open Idealize.ShloMosaic.Pipeline (Dat)

namespace Cert.Kernel5Ideal.InProj

open Cert.Kernel5Ideal Cert.Kernel5Ideal.Gen

variable (m : (ℓ : Loc nD τ sig) → Buf (Elt Ideal) ℓ)

set_option maxHeartbeats 1600000 in
/-- One tile of the forget logits and the step sizes. -/
theorem tileF (c : Dev nD) (t : Fin cfg0.N) (x : S1x256x128.Idx) (z : S16x4352x128.Idx)
    (h0 : (z 0 : Nat) = t.val / 17) (h1 : (z 1 : Nat) = 256 * (t.val % 17) + x 1) (h2 : (z 2 : Nat) = x 2) :
    k0_pay7 (F := Ideal) (iblk m c 0 t) (iblk m c 1 t) (View.ld (iblk m c 2 t) (Rect.unit ![0, 8704] ![1024, 128] inb_S1024x8832_S1024x128_0_8704)) x
      = Cert.Reference5Ideal.FDT (m ((c : Thread nD τ).loc main_arg0)) (m ((c : Thread nD τ).loc main_arg1)) (m ((c : Thread nD τ).loc main_arg2)) z := by
  have hx : (x 2 : Nat) < 128 := (x 2).isLt
  pointwise [k0_pay7, k0_pay6, k0_pay5, Cert.Reference5Ideal.FDT, Cert.Reference5Ideal.PROJ, Cert.Reference5Ideal.U]
  by_cases a : (z 2 : Nat) < 32
  · rw [dif_pos a]
    by_cases b : (z 2 : Nat) < 16
    · rw [dif_pos b]
      blk_point [iblk, idx t]
      · exact read0 m c _ _ (by blk_simp [idx t]; simp; omega) (by blk_simp [idx t])
      · exact read0 m c _ _ (by blk_simp [idx t]; simp; omega) (by blk_simp [idx t])
      · exact read1 m c _ _ (by blk_simp [idx t])
      · refine colF m c _ _ ?_ ?_ ?_ ?_
        · blk_simp [idx t]
        · blk_simp [idx t] <;> simp <;> omega
        · blk_simp [idx t] <;> simp <;> omega
        · blk_simp [idx t] <;> simp <;> omega
    · rw [dif_neg b]
      blk_point [iblk, idx t]
      · exact read0 m c _ _ (by blk_simp [idx t]; simp; omega) (by blk_simp [idx t])
      · exact read0 m c _ _ (by blk_simp [idx t]; simp; omega) (by blk_simp [idx t])
      · exact read1 m c _ _ (by blk_simp [idx t])
      · refine colDt m c _ _ ?_ ?_ ?_ ?_
        · blk_simp [idx t]
        · blk_simp [idx t] <;> simp <;> omega
        · blk_simp [idx t] <;> simp <;> omega
        · blk_simp [idx t] <;> simp <;> omega
  · rw [dif_neg a]
    refine (Finset.sum_eq_zero fun k _ => ?_).trans ?_
    · have e : iblk m c 2 t (ix2 k ⟨8704 + (x 2).val, by omega⟩) = (0 : EReal) := by
        blk_simp [iblk, idx t]
        refine col0 m c _ ?_ ?_
        · blk_simp [idx t] <;> simp <;> omega
        · blk_simp [idx t] <;> simp <;> omega
      exact (congrArg _ e).trans (mul_zero _)
    · simp [FloatOps.sitofp]

set_option maxHeartbeats 1600000 in
/-- The result array 14 after the run is the reference's term. -/
theorem final14 (c : Dev nD) : (dats m 0 c).arrAt 14 (cfgs 0).N
    = Cert.Reference5Ideal.FDT (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after0_14]
  by_cases h0 : t.val % 17 = 0
  · rw [outsAt0_A m c t h0]; frame_out
    refine tileF m c t y _ ?_ ?_ ?_
    all_goals blk_simp [idx t]
    all_goals simp [Nat.mul_comm]
  · rw [outsAt0_B m c t h0]; frame_out
    refine tileF m c t y _ ?_ ?_ ?_
    all_goals blk_simp [idx t]
    all_goals simp [Nat.mul_comm]
end Cert.Kernel5Ideal.InProj

end
-- ==== Proof.InProjMid.lean ====
module

public import proofs.«01_k».proof.Proof.Gen.Kernel5Ideal.Frame
public import proofs.«01_k».proof.Proof.Ref5
public import Idealize.ShloMosaic.Lib.Pipeline.ValueKit
public import proofs.«01_k».proof.Proof.InProjRead
public import proofs.«01_k».proof.Proof.InProj

@[expose] public section

set_option maxRecDepth 16384

noncomputable section

open Idealize.ShloMosaic Idealize.ShloMosaic.TcCoe Idealize.SL.Sem
open Idealize.ShloMosaic.Pipeline (Dat)

namespace Cert.Kernel5Ideal.InProj

open Cert.Kernel5Ideal Cert.Kernel5Ideal.Gen

variable (m : (ℓ : Loc nD τ sig) → Buf (Elt Ideal) ℓ)

/-- The tile as the reference's `XBC` has it. -/
theorem tileXBC (c : Dev nD) (t : Fin cfg0.N) (o e : Nat) (ho : o = 2048 + e) (he : e + 512 ≤ 1536)
    (hA : ∀ a, (![0, o] : Fin 2 → Nat) a + S1024x512.size a ≤ S1024x8832.size a)
    (x : S1x256x512.Idx) (z : S16x4352x1536.Idx)
    (h0 : (z 0 : Nat) = t.val / 17) (h1 : (z 1 : Nat) = 256 * (t.val % 17) + x 1) (h2 : (z 2 : Nat) = e + x 2) :
    k0_pay8 (F := Ideal) (iblk m c 0 t) (iblk m c 1 t) (View.ld (iblk m c 2 t) (Rect.unit ![0, o] S1024x512.size hA)) x
      = Cert.Reference5Ideal.XBC (m ((c : Thread nD τ).loc main_arg0)) (m ((c : Thread nD τ).loc main_arg1)) (m ((c : Thread nD τ).loc main_arg2)) z := by
  subst ho
  refine tile m c t _ (4112 + e) hA (fun i j g0 g1 g2 g3 => colXbc m c i j g0 (by omega) (by omega) (by omega)) x _ ?_ ?_ ?_
  · exact (Nat.zero_add _).trans h0
  · exact (Nat.zero_add _).trans h1
  · exact (congrArg (4112 + ·) h2).trans (Nat.add_assoc _ _ _).symm

set_option maxHeartbeats 1600000 in
/-- The result array 10 after the run is the reference's term. -/
theorem final10 (c : Dev nD) : (dats m 0 c).arrAt 10 (cfgs 0).N
    = Cert.Reference5Ideal.XBC (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  by_cases h0 : t.val % 17 = 0
  · rw [outsAt0_A m c t h0]; frame_out
    canon_tiles y h
    · refine tileXBC m c t _ 1024 (by decide) (by decide) (by decide) y _ ?_ ?_ ?_
      all_goals blk_simp [idx t]
      all_goals simp [Nat.mul_comm]
      all_goals omega
    · refine tileXBC m c t _ 512 (by decide) (by decide) (by decide) y _ ?_ ?_ ?_
      all_goals blk_simp [idx t]
      all_goals simp [Nat.mul_comm]
      all_goals omega
    · refine tileXBC m c t _ 0 (by decide) (by decide) (by decide) y _ ?_ ?_ ?_
      all_goals blk_simp [idx t]
      all_goals simp [Nat.mul_comm]
      all_goals omega
  · rw [outsAt0_B m c t h0]; frame_out
    canon_tiles y h
    · refine tileXBC m c t _ 1024 (by decide) (by decide) (by decide) y _ ?_ ?_ ?_
      all_goals blk_simp [idx t]
      all_goals simp [Nat.mul_comm]
      all_goals omega
    · refine tileXBC m c t _ 512 (by decide) (by decide) (by decide) y _ ?_ ?_ ?_
      all_goals blk_simp [idx t]
      all_goals simp [Nat.mul_comm]
      all_goals omega
    · refine tileXBC m c t _ 0 (by decide) (by decide) (by decide) y _ ?_ ?_ ?_
      all_goals blk_simp [idx t]
      all_goals simp [Nat.mul_comm]
      all_goals omega

/-- The tile as the reference's `XR` has it. -/
theorem tileXR (c : Dev nD) (t : Fin cfg0.N) (o e : Nat) (ho : o = 3584 + e) (he : e + 512 ≤ 1024)
    (hA : ∀ a, (![0, o] : Fin 2 → Nat) a + S1024x512.size a ≤ S1024x8832.size a)
    (x : S1x256x512.Idx) (z : S16x4352x1024.Idx)
    (h0 : (z 0 : Nat) = t.val / 17) (h1 : (z 1 : Nat) = 256 * (t.val % 17) + x 1) (h2 : (z 2 : Nat) = e + x 2) :
    k0_pay8 (F := Ideal) (iblk m c 0 t) (iblk m c 1 t) (View.ld (iblk m c 2 t) (Rect.unit ![0, o] S1024x512.size hA)) x
      = Cert.Reference5Ideal.XR (m ((c : Thread nD τ).loc main_arg0)) (m ((c : Thread nD τ).loc main_arg1)) (m ((c : Thread nD τ).loc main_arg2)) z := by
  subst ho
  refine tile m c t _ (5664 + e) hA (fun i j g0 g1 g2 g3 => colXr m c i j g0 (by omega) (by omega) (by omega)) x _ ?_ ?_ ?_
  · exact (Nat.zero_add _).trans h0
  · exact (Nat.zero_add _).trans h1
  · exact (congrArg (5664 + ·) h2).trans (Nat.add_assoc _ _ _).symm

set_option maxHeartbeats 1600000 in
/-- The result array 11 after the run is the reference's term. -/
theorem final11 (c : Dev nD) : (dats m 0 c).arrAt 11 (cfgs 0).N
    = Cert.Reference5Ideal.XR (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  by_cases h0 : t.val % 17 = 0
  · rw [outsAt0_A m c t h0]; frame_out
    canon_tiles y h
    · refine tileXR m c t _ 512 (by decide) (by decide) (by decide) y _ ?_ ?_ ?_
      all_goals blk_simp [idx t]
      all_goals simp [Nat.mul_comm]
      all_goals omega
    · refine tileXR m c t _ 0 (by decide) (by decide) (by decide) y _ ?_ ?_ ?_
      all_goals blk_simp [idx t]
      all_goals simp [Nat.mul_comm]
      all_goals omega
  · rw [outsAt0_B m c t h0]; frame_out
    canon_tiles y h
    · refine tileXR m c t _ 512 (by decide) (by decide) (by decide) y _ ?_ ?_ ?_
      all_goals blk_simp [idx t]
      all_goals simp [Nat.mul_comm]
      all_goals omega
    · refine tileXR m c t _ 0 (by decide) (by decide) (by decide) y _ ?_ ?_ ?_
      all_goals blk_simp [idx t]
      all_goals simp [Nat.mul_comm]
      all_goals omega

end Cert.Kernel5Ideal.InProj

end
-- ==== Proof.InProjGates.lean ====
module

public import proofs.«01_k».proof.Proof.Gen.Kernel5Ideal.Frame
public import proofs.«01_k».proof.Proof.Ref5
public import Idealize.ShloMosaic.Lib.Pipeline.ValueKit
public import proofs.«01_k».proof.Proof.InProjRead
public import proofs.«01_k».proof.Proof.InProj

@[expose] public section

set_option maxRecDepth 16384

noncomputable section

open Idealize.ShloMosaic Idealize.ShloMosaic.TcCoe Idealize.SL.Sem
open Idealize.ShloMosaic.Pipeline (Dat)

namespace Cert.Kernel5Ideal.InProj

open Cert.Kernel5Ideal Cert.Kernel5Ideal.Gen

variable (m : (ℓ : Loc nD τ sig) → Buf (Elt Ideal) ℓ)

/-- The tile as the reference's `GATE` has it. -/
theorem tileGATE (c : Dev nD) (t : Fin cfg0.N) (o e : Nat) (ho : o = 4608 + e) (he : e + 512 ≤ 1024)
    (hA : ∀ a, (![0, o] : Fin 2 → Nat) a + S1024x512.size a ≤ S1024x8832.size a)
    (x : S1x256x512.Idx) (z : S16x4352x1024.Idx)
    (h0 : (z 0 : Nat) = t.val / 17) (h1 : (z 1 : Nat) = 256 * (t.val % 17) + x 1) (h2 : (z 2 : Nat) = e + x 2) :
    k0_pay8 (F := Ideal) (iblk m c 0 t) (iblk m c 1 t) (View.ld (iblk m c 2 t) (Rect.unit ![0, o] S1024x512.size hA)) x
      = Cert.Reference5Ideal.GATE (m ((c : Thread nD τ).loc main_arg0)) (m ((c : Thread nD τ).loc main_arg1)) (m ((c : Thread nD τ).loc main_arg2)) z := by
  subst ho
  refine tile m c t _ (6688 + e) hA (fun i j g0 g1 g2 g3 => colGate m c i j g0 (by omega) (by omega) (by omega)) x _ ?_ ?_ ?_
  · exact (Nat.zero_add _).trans h0
  · exact (Nat.zero_add _).trans h1
  · exact (congrArg (6688 + ·) h2).trans (Nat.add_assoc _ _ _).symm

set_option maxHeartbeats 1600000 in
/-- The result array 12 after the run is the reference's term. -/
theorem final12 (c : Dev nD) : (dats m 0 c).arrAt 12 (cfgs 0).N
    = Cert.Reference5Ideal.GATE (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  by_cases h0 : t.val % 17 = 0
  · rw [outsAt0_A m c t h0]; frame_out
    canon_tiles y h
    · refine tileGATE m c t _ 512 (by decide) (by decide) (by decide) y _ ?_ ?_ ?_
      all_goals blk_simp [idx t]
      all_goals simp [Nat.mul_comm]
      all_goals omega
    · refine tileGATE m c t _ 0 (by decide) (by decide) (by decide) y _ ?_ ?_ ?_
      all_goals blk_simp [idx t]
      all_goals simp [Nat.mul_comm]
      all_goals omega
  · rw [outsAt0_B m c t h0]; frame_out
    canon_tiles y h
    · refine tileGATE m c t _ 512 (by decide) (by decide) (by decide) y _ ?_ ?_ ?_
      all_goals blk_simp [idx t]
      all_goals simp [Nat.mul_comm]
      all_goals omega
    · refine tileGATE m c t _ 0 (by decide) (by decide) (by decide) y _ ?_ ?_ ?_
      all_goals blk_simp [idx t]
      all_goals simp [Nat.mul_comm]
      all_goals omega

/-- The tile as the reference's `MERGE` has it. -/
theorem tileMERGE (c : Dev nD) (t : Fin cfg0.N) (o e : Nat) (ho : o = 5632 + e) (he : e + 512 ≤ 3072)
    (hA : ∀ a, (![0, o] : Fin 2 → Nat) a + S1024x512.size a ≤ S1024x8832.size a)
    (x : S1x256x512.Idx) (z : S16x4352x3072.Idx)
    (h0 : (z 0 : Nat) = t.val / 17) (h1 : (z 1 : Nat) = 256 * (t.val % 17) + x 1) (h2 : (z 2 : Nat) = e + x 2) :
    k0_pay8 (F := Ideal) (iblk m c 0 t) (iblk m c 1 t) (View.ld (iblk m c 2 t) (Rect.unit ![0, o] S1024x512.size hA)) x
      = Cert.Reference5Ideal.MERGE (m ((c : Thread nD τ).loc main_arg0)) (m ((c : Thread nD τ).loc main_arg1)) (m ((c : Thread nD τ).loc main_arg2)) z := by
  subst ho
  refine tile m c t _ (7712 + e) hA (fun i j g0 g1 g2 g3 => colMerge m c i j g0 (by omega) (by omega) (by omega)) x _ ?_ ?_ ?_
  · exact (Nat.zero_add _).trans h0
  · exact (Nat.zero_add _).trans h1
  · exact (congrArg (7712 + ·) h2).trans (Nat.add_assoc _ _ _).symm

set_option maxHeartbeats 1600000 in
/-- The result array 13 after the run is the reference's term. -/
theorem final13 (c : Dev nD) : (dats m 0 c).arrAt 13 (cfgs 0).N
    = Cert.Reference5Ideal.MERGE (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  by_cases h0 : t.val % 17 = 0
  · rw [outsAt0_A m c t h0]; frame_out
    canon_tiles y h
    · refine tileMERGE m c t _ 2560 (by decide) (by decide) (by decide) y _ ?_ ?_ ?_
      all_goals blk_simp [idx t]
      all_goals simp [Nat.mul_comm]
      all_goals omega
    · refine tileMERGE m c t _ 2048 (by decide) (by decide) (by decide) y _ ?_ ?_ ?_
      all_goals blk_simp [idx t]
      all_goals simp [Nat.mul_comm]
      all_goals omega
    · refine tileMERGE m c t _ 1536 (by decide) (by decide) (by decide) y _ ?_ ?_ ?_
      all_goals blk_simp [idx t]
      all_goals simp [Nat.mul_comm]
      all_goals omega
    · refine tileMERGE m c t _ 1024 (by decide) (by decide) (by decide) y _ ?_ ?_ ?_
      all_goals blk_simp [idx t]
      all_goals simp [Nat.mul_comm]
      all_goals omega
    · refine tileMERGE m c t _ 512 (by decide) (by decide) (by decide) y _ ?_ ?_ ?_
      all_goals blk_simp [idx t]
      all_goals simp [Nat.mul_comm]
      all_goals omega
    · refine tileMERGE m c t _ 0 (by decide) (by decide) (by decide) y _ ?_ ?_ ?_
      all_goals blk_simp [idx t]
      all_goals simp [Nat.mul_comm]
      all_goals omega
  · rw [outsAt0_B m c t h0]; frame_out
    canon_tiles y h
    · refine tileMERGE m c t _ 2560 (by decide) (by decide) (by decide) y _ ?_ ?_ ?_
      all_goals blk_simp [idx t]
      all_goals simp [Nat.mul_comm]
      all_goals omega
    · refine tileMERGE m c t _ 2048 (by decide) (by decide) (by decide) y _ ?_ ?_ ?_
      all_goals blk_simp [idx t]
      all_goals simp [Nat.mul_comm]
      all_goals omega
    · refine tileMERGE m c t _ 1536 (by decide) (by decide) (by decide) y _ ?_ ?_ ?_
      all_goals blk_simp [idx t]
      all_goals simp [Nat.mul_comm]
      all_goals omega
    · refine tileMERGE m c t _ 1024 (by decide) (by decide) (by decide) y _ ?_ ?_ ?_
      all_goals blk_simp [idx t]
      all_goals simp [Nat.mul_comm]
      all_goals omega
    · refine tileMERGE m c t _ 512 (by decide) (by decide) (by decide) y _ ?_ ?_ ?_
      all_goals blk_simp [idx t]
      all_goals simp [Nat.mul_comm]
      all_goals omega
    · refine tileMERGE m c t _ 0 (by decide) (by decide) (by decide) y _ ?_ ?_ ?_
      all_goals blk_simp [idx t]
      all_goals simp [Nat.mul_comm]
      all_goals omega

end Cert.Kernel5Ideal.InProj

end
-- ==== Proof.AttnLoopIdeal.lean ====
/-
  The block loop of the attention call: over the key blocks before the query block's own, sixteen heads a trip. The key
  buffer is held on the rows that have landed (all below `next i`), since the rows of the next block are being filled meanwhile.
-/
module

public import proofs.«01_k».proof.Proof.Gen.Kernel6Ideal.Skeleton
public import proofs.«01_k».proof.Proof.Gen.Kernel6Ideal.Points
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 8192
set_option maxHeartbeats 4000000

noncomputable section

namespace Cert.Kernel6Ideal.Attn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The key array left in HBM, the key buffer, the running maximum, the accumulator and the scores, each whole. -/
abbrev hbK : Memref sig .tc .hbm S16x4352x2048 .bf16 := Memref.whole main_arg1
abbrev scK : Memref sig .tc .vmem S4352x2048 .bf16 := Memref.whole cc0_scratch0
abbrev scM : Memref sig .tc .vmem S16x1x256 .f32 := Memref.whole cc0_scratch2
abbrev scA : Memref sig .tc .vmem S16x80x256 .f32 := Memref.whole cc0_scratch3
abbrev scS : Memref sig .tc .vmem S16x256x256 .f32 := Memref.whole cc0_scratch4
theorem hbK_whole : hbK.IsWhole := Memref.isWhole_whole _
theorem scK_whole : scK.IsWhole := Memref.isWhole_whole _
theorem scM_whole : scM.IsWhole := Memref.isWhole_whole _
theorem scA_whole : scA.IsWhole := Memref.isWhole_whole _
theorem scS_whole : scS.IsWhole := Memref.isWhole_whole _

/-- The rows of the key buffer from `n` on; what has landed by the point `i` is everything less `rowsFrom (next i)`. -/
def rowsFrom (n : ℕ) : Finset S4352x2048.Idx := Finset.univ.filter fun x => n ≤ (x 0).val
theorem mem_rowsFrom {n : ℕ} {x : S4352x2048.Idx} : x ∈ rowsFrom n ↔ n ≤ (x 0).val := by simp [rowsFrom]

/-- The first row after the point's own block. -/
def next (i : grid0.Coords) : ℕ := 256 * ((i 2).val + 1)

/-- A box of rows and columns lies below row `n` when its last row does. -/
theorem access_below (n : ℕ) (off : Fin 2 → ℕ) (sz : Fin 2 → ℕ) (hb : ∀ a, off a + sz a ≤ S4352x2048.size a)
    (h : off 0 + sz 0 ≤ n) : Disjoint (scK.view.setOn (Rect.unit (s := S4352x2048) off sz hb).set) (rowsFrom n) := by
  rw [Finset.disjoint_left]
  intro x hx hm
  obtain ⟨y, hy, rfl⟩ := Finset.mem_map.mp hx
  have h0 : n ≤ (y 0).val := mem_rowsFrom.mp hm
  have h1 := (Rect.mem_set_unit.mp hy 0).2
  omega

theorem trips_eq (i : grid0.Coords) : (k0_t1_loop i).trips = (i 2).val := by
  revert i; decide +kernel
theorem trips2_eq (i : grid0.Coords) : (k0_t2_loop i).trips = 0 := by
  revert i; decide +kernel

/-- A trip's key block has landed. -/
theorem landed_trip (i : grid0.Coords) (k : Fin (k0_t1_loop i).trips) (off : Fin 2 → ℕ)
    (hb : ∀ a, off a + S256x128.size a ≤ S4352x2048.size a) (c : ℕ) (h : off = ![256 * k.val + 256, c]) :
    Disjoint (scK.view.setOn (Rect.unit (s := S4352x2048) off S256x128.size hb).set) (rowsFrom (next i)) := by
  subst h
  refine access_below _ _ _ hb ?_
  have hk : k.val < (i 2).val := by exact (trips_eq i) ▸ k.isLt
  show 256 * k.val + 256 + 256 ≤ next i
  unfold next
  omega

variable (c : Dev nD) (i : grid0.Coords)
  (arg3 : Memref sig .tc .vmem S1x1x2048x256 .bf16) (harg3 : arg3.IsWhole)
  (arg4 : Memref sig .tc .vmem S1x1x2048x256 .bf16) (harg4 : arg4.IsWhole)
  (arg6 : Memref sig .tc .vmem S1x17x1280x256 .bf16) (harg6 : arg6.IsWhole)
  (arg7 : Memref sig .tc .vmem S128x128 .f32) (harg7 : arg7.IsWhole)
  (arg8 : Memref sig .tc .vmem S1x256x1024 .bf16) (harg8 : arg8.IsWhole)
  (X3 : BufTy.Contents (Elt F) arg3.view.ty) (X6 : BufTy.Contents (Elt F) arg6.view.ty) (XK : BufTy.Contents (Elt F) scK.view.ty)

/-- What the loop carries: the running maximum, the accumulator and the scores. -/
abbrev Carry (F : FTy → Type) : Type := BufTy.Contents (Elt F) scM.view.ty × BufTy.Contents (Elt F) scA.view.ty × BufTy.Contents (Elt F) scS.view.ty

/-- A trip's resources. -/
abbrev TripRes (fM : BufTy.Contents (Elt F) scM.view.ty) (fA : BufTy.Contents (Elt F) scA.view.ty) (fS : BufTy.Contents (Elt F) scS.view.ty) : sProp 𝕄 :=
  iprop((arg3.view.loc (c : Thread nD τ) ↦[arg3.view.set]{fullShare} X3) ∗ (arg6.view.loc (c : Thread nD τ) ↦[arg6.view.set]{fullShare} X6)
    ∗ (scK.view.loc (c : Thread nD τ) ↦[Finset.univ \ rowsFrom (next i)]{fullShare} XK) ∗ (scM.view.loc (c : Thread nD τ) ↦[scM.view.set]{fullShare} fM)
    ∗ (scA.view.loc (c : Thread nD τ) ↦[scA.view.set]{fullShare} fA) ∗ (scS.view.loc (c : Thread nD τ) ↦[scS.view.set]{fullShare} fS))

/-- One trip, run at a symbolic block: the pieces it writes into the three buffers, as functions of what it finds there. -/
@[irreducible] def trip (k : Fin (k0_t1_loop i).trips) :
    Σ' (LM : BufTy.Contents (Elt F) scM.view.ty → BufTy.Contents (Elt F) scA.view.ty → BufTy.Contents (Elt F) scS.view.ty → List (View.Piece (Elt F) S16x1x256 .f32)) (LA : BufTy.Contents (Elt F) scM.view.ty → BufTy.Contents (Elt F) scA.view.ty → BufTy.Contents (Elt F) scS.view.ty → List (View.Piece (Elt F) S16x80x256 .f32)),
      { LS : BufTy.Contents (Elt F) scM.view.ty → BufTy.Contents (Elt F) scA.view.ty → BufTy.Contents (Elt F) scS.view.ty → List (View.Piece (Elt F) S16x256x256 .f32) // ∀ (E : Set ℕ) (fM : BufTy.Contents (Elt F) scM.view.ty)
        (fA : BufTy.Contents (Elt F) scA.view.ty) (fS : BufTy.Contents (Elt F) scS.view.ty),
        TripRes c i arg3 arg6 X3 X6 XK fM fA fS
        ⊢ wp frame (wpE (defs₀ (F := F)) Variants.none (c : Thread nD τ) none) E (k0_t1_body (F := F) i arg3 harg3 arg4 harg4 hbK hbK_whole arg6 harg6 arg7 harg7 arg8 harg8 scK scK_whole cc0_scratch1 scM scM_whole scA scA_whole scS scS_whole k PUnit.unit)
          (fun _ => TripRes c i arg3 arg6 X3 X6 XK (scM.view.writes (Elt F) fM (LM fM fA fS))
            (scA.view.writes (Elt F) fA (LA fM fA fS)) (scS.view.writes (Elt F) fS (LS fM fA fS))) } := by
  refine ⟨?_, ?_, ?_, fun E fM fA fS => ?run⟩
  case run =>
    have h0 : Disjoint (scK.view.setOn (Rect.unit (s := S4352x2048) (k0_off6 i k) S256x128.size (k0_off6_inb i k)).set) (rowsFrom (next i)) := landed_trip i k _ _ _ (k0_off6_eq i k)
    have h1 : Disjoint (scK.view.setOn (Rect.unit (s := S4352x2048) (k0_off8 i k) S256x128.size (k0_off8_inb i k)).set) (rowsFrom (next i)) := landed_trip i k _ _ _ (k0_off8_eq i k)
    have h2 : Disjoint (scK.view.setOn (Rect.unit (s := S4352x2048) (k0_off10 i k) S256x128.size (k0_off10_inb i k)).set) (rowsFrom (next i)) := landed_trip i k _ _ _ (k0_off10_eq i k)
    have h3 : Disjoint (scK.view.setOn (Rect.unit (s := S4352x2048) (k0_off12 i k) S256x128.size (k0_off12_inb i k)).set) (rowsFrom (next i)) := landed_trip i k _ _ _ (k0_off12_eq i k)
    have h4 : Disjoint (scK.view.setOn (Rect.unit (s := S4352x2048) (k0_off14 i k) S256x128.size (k0_off14_inb i k)).set) (rowsFrom (next i)) := landed_trip i k _ _ _ (k0_off14_eq i k)
    have h5 : Disjoint (scK.view.setOn (Rect.unit (s := S4352x2048) (k0_off16 i k) S256x128.size (k0_off16_inb i k)).set) (rowsFrom (next i)) := landed_trip i k _ _ _ (k0_off16_eq i k)
    have h6 : Disjoint (scK.view.setOn (Rect.unit (s := S4352x2048) (k0_off18 i k) S256x128.size (k0_off18_inb i k)).set) (rowsFrom (next i)) := landed_trip i k _ _ _ (k0_off18_eq i k)
    have h7 : Disjoint (scK.view.setOn (Rect.unit (s := S4352x2048) (k0_off20 i k) S256x128.size (k0_off20_inb i k)).set) (rowsFrom (next i)) := landed_trip i k _ _ _ (k0_off20_eq i k)
    have h8 : Disjoint (scK.view.setOn (Rect.unit (s := S4352x2048) (k0_off22 i k) S256x128.size (k0_off22_inb i k)).set) (rowsFrom (next i)) := landed_trip i k _ _ _ (k0_off22_eq i k)
    have h9 : Disjoint (scK.view.setOn (Rect.unit (s := S4352x2048) (k0_off24 i k) S256x128.size (k0_off24_inb i k)).set) (rowsFrom (next i)) := landed_trip i k _ _ _ (k0_off24_eq i k)
    have h10 : Disjoint (scK.view.setOn (Rect.unit (s := S4352x2048) (k0_off26 i k) S256x128.size (k0_off26_inb i k)).set) (rowsFrom (next i)) := landed_trip i k _ _ _ (k0_off26_eq i k)
    have h11 : Disjoint (scK.view.setOn (Rect.unit (s := S4352x2048) (k0_off28 i k) S256x128.size (k0_off28_inb i k)).set) (rowsFrom (next i)) := landed_trip i k _ _ _ (k0_off28_eq i k)
    have h12 : Disjoint (scK.view.setOn (Rect.unit (s := S4352x2048) (k0_off30 i k) S256x128.size (k0_off30_inb i k)).set) (rowsFrom (next i)) := landed_trip i k _ _ _ (k0_off30_eq i k)
    have h13 : Disjoint (scK.view.setOn (Rect.unit (s := S4352x2048) (k0_off32 i k) S256x128.size (k0_off32_inb i k)).set) (rowsFrom (next i)) := landed_trip i k _ _ _ (k0_off32_eq i k)
    have h14 : Disjoint (scK.view.setOn (Rect.unit (s := S4352x2048) (k0_off34 i k) S256x128.size (k0_off34_inb i k)).set) (rowsFrom (next i)) := landed_trip i k _ _ _ (k0_off34_eq i k)
    have h15 : Disjoint (scK.view.setOn (Rect.unit (s := S4352x2048) (k0_off36 i k) S256x128.size (k0_off36_inb i k)).set) (rowsFrom (next i)) := landed_trip i k _ _ _ (k0_off36_eq i k)
    unfold k0_t1_body
    iintro ⟨H3, H6, HK, HM, HA, HS⟩
    sl_exec
    sl_step
    sl_close

/-- What a trip leaves. -/
def tripSt (k : Fin (k0_t1_loop i).trips) (s : Carry F) : Carry F :=
  (scM.view.writes (Elt F) s.1 ((trip c i arg3 harg3 arg4 harg4 arg6 harg6 arg7 harg7 arg8 harg8 X3 X6 XK k).1 s.1 s.2.1 s.2.2),
    scA.view.writes (Elt F) s.2.1 ((trip c i arg3 harg3 arg4 harg4 arg6 harg6 arg7 harg7 arg8 harg8 X3 X6 XK k).2.1 s.1 s.2.1 s.2.2),
    scS.view.writes (Elt F) s.2.2 ((trip c i arg3 harg3 arg4 harg4 arg6 harg6 arg7 harg7 arg8 harg8 X3 X6 XK k).2.2.1 s.1 s.2.1 s.2.2))

/-- What the buffers hold before trip `k`. -/
def st (G : Carry F) : ℕ → Carry F
  | 0 => G
  | k + 1 => if h : k < (k0_t1_loop i).trips then tripSt c i arg3 harg3 arg4 harg4 arg6 harg6 arg7 harg7 arg8 harg8 X3 X6 XK ⟨k, h⟩ (st G k) else st G k

theorem st_succ (G : Carry F) (k : Fin (k0_t1_loop i).trips) :
    st c i arg3 harg3 arg4 harg4 arg6 harg6 arg7 harg7 arg8 harg8 X3 X6 XK G (k.val + 1) = tripSt c i arg3 harg3 arg4 harg4 arg6 harg6 arg7 harg7 arg8 harg8 X3 X6 XK k (st c i arg3 harg3 arg4 harg4 arg6 harg6 arg7 harg7 arg8 harg8 X3 X6 XK G k.val) := by
  rw [st, dif_pos k.isLt]

set_option warn.classDefReducibility false in
/-- The loop by its invariant: before trip `k` the three buffers hold `st k`. -/
@[sl_loop] def loopInv (E : Set ℕ) (GM : BufTy.Contents (Elt F) scM.view.ty) (GA : BufTy.Contents (Elt F) scA.view.ty) (GS : BufTy.Contents (Elt F) scS.view.ty) :
    Idealize.ShloMosaic.LoopInv (M := 𝕄) Idealize.ShloMosaic.frame (wpE (defs₀ (F := F)) Variants.none (c : Thread nD τ) none) E
      (k0_t1_loop i).lb (k0_t1_loop i).ub (k0_t1_loop i).st (k0_t1_ok i) () (k0_t1_body (F := F) i arg3 harg3 arg4 harg4 hbK hbK_whole arg6 harg6 arg7 harg7 arg8 harg8 scK scK_whole cc0_scratch1 scM scM_whole scA scA_whole scS scS_whole) where
  inv k _ := iprop((arg3.view.loc (c : Thread nD τ) ↦[arg3.view.set]{fullShare} X3) ∗ (arg6.view.loc (c : Thread nD τ) ↦[arg6.view.set]{fullShare} X6)
    ∗ (scK.view.loc (c : Thread nD τ) ↦[Finset.univ \ rowsFrom (next i)]{fullShare} XK)
    ∗ (∃ f, (scM.view.loc (c : Thread nD τ) ↦[scM.view.set]{fullShare} f) ∗ ⌜f = (st c i arg3 harg3 arg4 harg4 arg6 harg6 arg7 harg7 arg8 harg8 X3 X6 XK (GM, GA, GS) k).1⌝)
    ∗ (∃ f, (scA.view.loc (c : Thread nD τ) ↦[scA.view.set]{fullShare} f) ∗ ⌜f = (st c i arg3 harg3 arg4 harg4 arg6 harg6 arg7 harg7 arg8 harg8 X3 X6 XK (GM, GA, GS) k).2.1⌝)
    ∗ (∃ f, (scS.view.loc (c : Thread nD τ) ↦[scS.view.set]{fullShare} f) ∗ ⌜f = (st c i arg3 harg3 arg4 harg4 arg6 harg6 arg7 harg7 arg8 harg8 X3 X6 XK (GM, GA, GS) k).2.2⌝))
  step k acc := by
    iintro ⟨H3, H6, HK, ⟨%fM, HM, %hM⟩, ⟨%fA, HA, %hA⟩, ⟨%fS, HS, %hS⟩⟩
    iapply (wp_wand_r Idealize.ShloMosaic.frame (wpE (defs₀ (F := F)) Variants.none (c : Thread nD τ) none) E)
    isplitl [H3 H6 HK HM HA HS]
    · iapply ((trip c i arg3 harg3 arg4 harg4 arg6 harg6 arg7 harg7 arg8 harg8 X3 X6 XK k).2.2.2 E fM fA fS)
      isplitl [H3]; · iexact H3
      isplitl [H6]; · iexact H6
      isplitl [HK]; · iexact HK
      isplitl [HM]; · iexact HM
      isplitl [HA]; · iexact HA
      iexact HS
    · iintro %_ ⟨H3, H6, HK, HM, HA, HS⟩
      isplitl [H3]; · iexact H3
      isplitl [H6]; · iexact H6
      isplitl [HK]; · iexact HK
      rw [st_succ]
      isplitl [HM]
      · iexists _; isplitl [HM]; · iexact HM
        ipureintro; rw [hM, hA, hS]; rfl
      isplitl [HA]
      · iexists _; isplitl [HA]; · iexact HA
        ipureintro; rw [hM, hA, hS]; rfl
      iexists _; isplitl [HS]; · iexact HS
      ipureintro; rw [hM, hA, hS]; rfl

set_option warn.classDefReducibility false in
/-- The remainder loop has no trip. -/
@[sl_loop] def loopInv2 (E : Set ℕ) (v : BitVec 32) :
    Idealize.ShloMosaic.LoopInv (M := 𝕄) Idealize.ShloMosaic.frame (wpE (defs₀ (F := F)) Variants.none (c : Thread nD τ) none) E
      (k0_t2_loop i).lb (k0_t2_loop i).ub (k0_t2_loop i).st (k0_t2_ok i) () (k0_t2_body (F := F) i arg3 harg3 arg4 harg4 hbK hbK_whole arg6 harg6 arg7 harg7 arg8 harg8 scK scK_whole cc0_scratch1 scM scM_whole scA scA_whole scS scS_whole v) where
  inv k _ := iprop(emp)
  step k acc := absurd (trips2_eq i ▸ k.isLt : k.val < 0) (Nat.not_lt_zero _)

end Cert.Kernel6Ideal.Attn

end
-- ==== Proof.AttnBodyIdeal.lean ====
module

public import proofs.«01_k».proof.Proof.AttnLoopIdeal
public import Idealize.ShloMosaic.Lib.Ring
public import Idealize.ShloMosaic.Lib.MixedBatch

@[expose] public section

set_option maxRecDepth 8192
set_option maxHeartbeats 8000000

noncomputable section

namespace Cert.Kernel6Ideal.Attn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## The rows of the key buffer -/

/-- One block of rows. -/
def rows (n : ℕ) : Finset S4352x2048.Idx := rowsFrom n \ rowsFrom (n + 256)
theorem mem_rows {n : ℕ} {x : S4352x2048.Idx} : x ∈ rows n ↔ n ≤ (x 0).val ∧ (x 0).val < n + 256 := by
  simp [rows, mem_rowsFrom]

/-- A block's window of the key buffer covers the block's rows. -/
theorem window_set (off : Fin 2 → ℕ) (hb : ∀ a, off a + S256x2048.size a ≤ S4352x2048.size a) (n : ℕ) (h : off = ![n, 0]) :
    (scK.slice (Rect.unit (s := S4352x2048) off S256x2048.size hb) (fun _ => rfl)).view.set = rows n := by
  subst h
  ext x
  show x ∈ ((View.whole cc0_scratch0).slice (Rect.unit (s := S4352x2048) ![n, 0] S256x2048.size hb)).set ↔ _
  rw [View.set_slice_whole, Rect.mem_set_unit, mem_rows]
  have h1 : (x 1).val < 2048 := (x 1).isLt
  constructor
  · intro hx
    exact hx 0
  · intro hx a
    match a with
    | ⟨0, _⟩ => exact hx
    | ⟨1, _⟩ => exact ⟨Nat.zero_le _, by show (x 1).val < 0 + 2048; omega⟩

theorem rowsFrom_split (n : ℕ) : rowsFrom n = rows n ∪ rowsFrom (n + 256) := by
  ext x; simp only [Finset.mem_union, mem_rows, mem_rowsFrom]; omega
theorem rows_disjoint (n : ℕ) : Disjoint (rows n) (rowsFrom (n + 256)) := by
  rw [Finset.disjoint_left]; intro x; rw [mem_rows, mem_rowsFrom]; omega
theorem landed_split (n : ℕ) : Finset.univ \ rowsFrom (n + 256) = (Finset.univ \ rowsFrom n) ∪ rows n := by
  ext x; simp only [Finset.mem_union, Finset.mem_sdiff, Finset.mem_univ, true_and, mem_rows, mem_rowsFrom]; omega
theorem landed_disjoint (n : ℕ) : Disjoint (Finset.univ \ rowsFrom n) (rows n) := by
  rw [Finset.disjoint_left]; intro x; simp only [Finset.mem_sdiff, Finset.mem_univ, true_and, mem_rows, mem_rowsFrom]; omega
theorem rowsFrom_zero : rowsFrom 0 = Finset.univ := by
  ext x; simp [mem_rowsFrom]
theorem landed_first : Finset.univ \ rowsFrom 256 = rows 0 := by
  ext x; simp only [Finset.mem_sdiff, Finset.mem_univ, true_and, mem_rows, mem_rowsFrom]; omega
theorem rowsFrom_end : rowsFrom 4352 = ∅ := by
  ext x
  have : (x 0).val < 4352 := (x 0).isLt
  simp only [mem_rowsFrom, Finset.notMem_empty, iff_false]; omega

/-! ## Where the conditions hold -/

theorem cond1_iff (i : grid0.Coords) : k0_cond1 i = 1#1 ↔ (i 2).val = 0 := by revert i; decide +kernel
theorem cond2_iff (i : grid0.Coords) : k0_cond2 i = 1#1 ↔ 0 < (i 2).val := by revert i; decide +kernel
theorem cond3_iff (i : grid0.Coords) : k0_cond3 i = 1#1 ↔ (i 2).val < 16 := by revert i; decide +kernel
theorem cond4_iff (i : grid0.Coords) : k0_cond4 i = 1#1 ↔ (i 2).val = 0 := by revert i; decide +kernel

variable (c : Dev nD) (i : grid0.Coords)
  (arg3 : Memref sig .tc .vmem S1x1x2048x256 .bf16) (harg3 : arg3.IsWhole)
  (arg4 : Memref sig .tc .vmem S1x1x2048x256 .bf16) (harg4 : arg4.IsWhole)
  (arg6 : Memref sig .tc .vmem S1x17x1280x256 .bf16) (harg6 : arg6.IsWhole)
  (arg7 : Memref sig .tc .vmem S128x128 .f32) (harg7 : arg7.IsWhole)
  (arg8 : Memref sig .tc .vmem S1x256x1024 .bf16) (harg8 : arg8.IsWhole)

/-- A resource set apart from the run. -/
def Apart (P : sProp 𝕄) : sProp 𝕄 := P
theorem Apart.intro (P : sProp 𝕄) : P ⊢ Apart P := .rfl
theorem Apart.elim (P : sProp 𝕄) : Apart P ⊢ P := .rfl

/-- Some rows of the key buffer, at anything. -/
abbrev keys (I : Finset S4352x2048.Idx) : sProp 𝕄 := iprop(∃ g, scK.view.loc (c : Thread nD τ) ↦[I]{fullShare} g)

theorem keys_join {I J : Finset S4352x2048.Idx} (h : Disjoint I J) :
    iprop(keys (F := F) c I ∗ keys c J) ⊢ keys c (I ∪ J) := by
  iintro ⟨⟨%f, HI⟩, ⟨%g, HJ⟩⟩
  iexists _
  iapply (pointsTo_join h)
  isplitl [HI]; · iexact HI
  iexact HJ

theorem keys_split {I J : Finset S4352x2048.Idx} (h : Disjoint I J) :
    keys (F := F) c (I ∪ J) ⊢ iprop(keys c I ∗ keys c J) := by
  iintro ⟨%f, H⟩
  icases (pointsTo_union h).1 $$ H with ⟨HI, HJ⟩
  isplitl [HI]
  · iexists _; iexact HI
  iexists _; iexact HJ

/-- The copy in flight between points: what it delivers (the block's rows, at anything, and its part of the key array). -/
abbrev inFlight (n : ℕ) (XH : BufTy.Contents (Elt F) hbK.view.ty) : sProp 𝕄 :=
  iprop(∃ S : Finset S16x4352x2048.Idx, ∃ g : BufTy.Contents (Elt F) scK.view.ty,
    Transfers.Flight countersEmb (c : Thread nD τ) (SemLoc.dma 10) default 32768
      iprop((scK.view.loc (c : Thread nD τ) ↦[rows n]{fullShare} g) ∗ (hbK.view.loc (c : Thread nD τ) ↦[S]{fullShare} XH))
    ∗ (hbK.view.loc (c : Thread nD τ) ↦[Finset.univ \ S]{fullShare} XH))

/-- The key array put together again. -/
theorem hbK_join (S : Finset S16x4352x2048.Idx) (XH : BufTy.Contents (Elt F) hbK.view.ty) :
    iprop((hbK.view.loc (c : Thread nD τ) ↦[S]{fullShare} XH) ∗ (hbK.view.loc (c : Thread nD τ) ↦[Finset.univ \ S]{fullShare} XH))
      ⊢ (hbK.view.loc (c : Thread nD τ) ↦{fullShare} XH : sProp 𝕄) :=
  (pointsTo_split_subset (ℓ := hbK.view.loc (c : Thread nD τ)) (Finset.subset_univ S)).2

theorem anyOf {sp : Space} {s : Shape} {e : EltTy} (M : Memref sig .tc sp s e) (f : Buf (Elt F) (M.view.loc (c : Thread nD τ))) :
    (M.view.loc (c : Thread nD τ) ↦[M.view.set]{fullShare} f : sProp 𝕄) ⊢ iprop(∃ g, M.view.loc (c : Thread nD τ) ↦[M.view.set]{fullShare} g) := by
  iintro H
  iexists _; iexact H

/-- The compute buffers. -/
abbrev bufs : sProp 𝕄 :=
  iprop((∃ f, scM.view.loc (c : Thread nD τ) ↦[scM.view.set]{fullShare} f) ∗ (∃ f, scA.view.loc (c : Thread nD τ) ↦[scA.view.set]{fullShare} f)
    ∗ (∃ f, scS.view.loc (c : Thread nD τ) ↦[scS.view.set]{fullShare} f))

/-- The region's buffers and cells before a point of a query block with `n` rows before it. -/
def state (n : ℕ) (XH : BufTy.Contents (Elt F) hbK.view.ty) : sProp 𝕄 :=
  if 0 < n ∧ n < 4352 then
    iprop(semVal ((c : Thread nD τ), SemLoc.dma 9) 0 ∗ inFlight c n XH ∗ keys c (Finset.univ \ rowsFrom n) ∗ keys c (rowsFrom (n + 256)) ∗ bufs c)
  else
    iprop(semVal ((c : Thread nD τ), SemLoc.dma 9) 0 ∗ semVal ((c : Thread nD τ), SemLoc.dma 10) 0
      ∗ (hbK.view.loc (c : Thread nD τ) ↦{fullShare} XH) ∗ keys c Finset.univ ∗ bufs c)

theorem state_mid {n : ℕ} (h : 0 < n ∧ n < 4352) (XH : BufTy.Contents (Elt F) hbK.view.ty) : state c n XH =
    iprop(semVal ((c : Thread nD τ), SemLoc.dma 9) 0 ∗ inFlight c n XH ∗ keys c (Finset.univ \ rowsFrom n) ∗ keys c (rowsFrom (n + 256)) ∗ bufs c) := if_pos h
theorem state_rest {n : ℕ} (h : ¬ (0 < n ∧ n < 4352)) (XH : BufTy.Contents (Elt F) hbK.view.ty) : state c n XH =
    iprop(semVal ((c : Thread nD τ), SemLoc.dma 9) 0 ∗ semVal ((c : Thread nD τ), SemLoc.dma 10) 0
      ∗ (hbK.view.loc (c : Thread nD τ) ↦{fullShare} XH) ∗ keys c Finset.univ ∗ bufs c) := if_neg h

/-- The staged operands, and the result's buffer at anything. -/
abbrev staged (X3 : BufTy.Contents (Elt F) arg3.view.ty) (X4 : BufTy.Contents (Elt F) arg4.view.ty) (X6 : BufTy.Contents (Elt F) arg6.view.ty)
    (X7 : BufTy.Contents (Elt F) arg7.view.ty) : sProp 𝕄 :=
  iprop((arg3.view.loc (c : Thread nD τ) ↦[arg3.view.set]{fullShare} X3) ∗ (arg4.view.loc (c : Thread nD τ) ↦[arg4.view.set]{fullShare} X4)
    ∗ (arg6.view.loc (c : Thread nD τ) ↦[arg6.view.set]{fullShare} X6) ∗ (arg7.view.loc (c : Thread nD τ) ↦[arg7.view.set]{fullShare} X7)
    ∗ (∃ f, arg8.view.loc (c : Thread nD τ) ↦[arg8.view.set]{fullShare} f))

/-- The first block's window of the key buffer, and the next block's. -/
abbrev dst0 : Memref sig .tc .vmem S256x2048 .bf16 :=
  scK.slice (Rect.unit (s := S4352x2048) ![0, 0] S256x2048.size inb_S4352x2048_S256x2048_0_0) (fun _ => rfl)
abbrev dst2 (h : k0_cond2 i = 1#1) : Memref sig .tc .vmem S256x2048 .bf16 :=
  scK.slice (Rect.unit (s := S4352x2048) (k0_off2 i) S256x2048.size (k0_off2_inb i h)) (fun _ => rfl)
abbrev dst4 (h : k0_cond3 i = 1#1) : Memref sig .tc .vmem S256x2048 .bf16 :=
  scK.slice (Rect.unit (s := S4352x2048) (k0_off4 i) S256x2048.size (k0_off4_inb i h)) (fun _ => rfl)
theorem dst0_set : dst0.view.set = rows 0 := window_set _ _ 0 rfl
theorem dst4_set (h : k0_cond3 i = 1#1) : (dst4 i h).view.set = rows (next i) :=
  window_set _ _ _ ((k0_off4_eq i).trans (by unfold next; congr 1))

theorem body_first (hq : (i 2).val = 0)
    (X3 : BufTy.Contents (Elt F) arg3.view.ty) (X4 : BufTy.Contents (Elt F) arg4.view.ty) (X6 : BufTy.Contents (Elt F) arg6.view.ty)
    (X7 : BufTy.Contents (Elt F) arg7.view.ty) (XH : BufTy.Contents (Elt F) hbK.view.ty) (W : Waits sig Unit) :
    iprop(state c (256 * (i 2).val) XH ∗ staged c arg3 arg4 arg6 arg7 arg8 X3 X4 X6 X7 ∗ owes (c : Thread nD τ) 0 W)
    ⊢ wp frame (wpE (defs₀ (F := F)) Variants.none c none) Set.univ
        (cc0_fox_attention i arg3 harg3 arg4 harg4 hbK hbK_whole arg6 harg6 arg7 harg7 arg8 harg8 scK scK_whole cc0_scratch1 scM scM_whole scA scA_whole scS scS_whole)
        (fun _ => iprop(state c (next i) XH ∗ staged c arg3 arg4 arg6 arg7 arg8 X3 X4 X6 X7 ∗ ∃ W', owes (c : Thread nD τ) 0 W')) := by
  have d0 : Disjoint (scK.view.setOn (Rect.unit (s := S4352x2048) ![0, 0] S256x128.size inb_S4352x2048_S256x128_0_0).set) (rowsFrom (next i)) := access_below _ _ _ _ (by show 0 + 256 ≤ next i; unfold next; omega)
  have d1 : Disjoint (scK.view.setOn (Rect.unit (s := S4352x2048) ![0, 128] S256x128.size inb_S4352x2048_S256x128_0_128).set) (rowsFrom (next i)) := access_below _ _ _ _ (by show 0 + 256 ≤ next i; unfold next; omega)
  have d2 : Disjoint (scK.view.setOn (Rect.unit (s := S4352x2048) ![0, 256] S256x128.size inb_S4352x2048_S256x128_0_256).set) (rowsFrom (next i)) := access_below _ _ _ _ (by show 0 + 256 ≤ next i; unfold next; omega)
  have d3 : Disjoint (scK.view.setOn (Rect.unit (s := S4352x2048) ![0, 384] S256x128.size inb_S4352x2048_S256x128_0_384).set) (rowsFrom (next i)) := access_below _ _ _ _ (by show 0 + 256 ≤ next i; unfold next; omega)
  have d4 : Disjoint (scK.view.setOn (Rect.unit (s := S4352x2048) ![0, 512] S256x128.size inb_S4352x2048_S256x128_0_512).set) (rowsFrom (next i)) := access_below _ _ _ _ (by show 0 + 256 ≤ next i; unfold next; omega)
  have d5 : Disjoint (scK.view.setOn (Rect.unit (s := S4352x2048) ![0, 640] S256x128.size inb_S4352x2048_S256x128_0_640).set) (rowsFrom (next i)) := access_below _ _ _ _ (by show 0 + 256 ≤ next i; unfold next; omega)
  have d6 : Disjoint (scK.view.setOn (Rect.unit (s := S4352x2048) ![0, 768] S256x128.size inb_S4352x2048_S256x128_0_768).set) (rowsFrom (next i)) := access_below _ _ _ _ (by show 0 + 256 ≤ next i; unfold next; omega)
  have d7 : Disjoint (scK.view.setOn (Rect.unit (s := S4352x2048) ![0, 896] S256x128.size inb_S4352x2048_S256x128_0_896).set) (rowsFrom (next i)) := access_below _ _ _ _ (by show 0 + 256 ≤ next i; unfold next; omega)
  have d8 : Disjoint (scK.view.setOn (Rect.unit (s := S4352x2048) ![0, 1024] S256x128.size inb_S4352x2048_S256x128_0_1024).set) (rowsFrom (next i)) := access_below _ _ _ _ (by show 0 + 256 ≤ next i; unfold next; omega)
  have d9 : Disjoint (scK.view.setOn (Rect.unit (s := S4352x2048) ![0, 1152] S256x128.size inb_S4352x2048_S256x128_0_1152).set) (rowsFrom (next i)) := access_below _ _ _ _ (by show 0 + 256 ≤ next i; unfold next; omega)
  have d10 : Disjoint (scK.view.setOn (Rect.unit (s := S4352x2048) ![0, 1280] S256x128.size inb_S4352x2048_S256x128_0_1280).set) (rowsFrom (next i)) := access_below _ _ _ _ (by show 0 + 256 ≤ next i; unfold next; omega)
  have d11 : Disjoint (scK.view.setOn (Rect.unit (s := S4352x2048) ![0, 1408] S256x128.size inb_S4352x2048_S256x128_0_1408).set) (rowsFrom (next i)) := access_below _ _ _ _ (by show 0 + 256 ≤ next i; unfold next; omega)
  have d12 : Disjoint (scK.view.setOn (Rect.unit (s := S4352x2048) ![0, 1536] S256x128.size inb_S4352x2048_S256x128_0_1536).set) (rowsFrom (next i)) := access_below _ _ _ _ (by show 0 + 256 ≤ next i; unfold next; omega)
  have d13 : Disjoint (scK.view.setOn (Rect.unit (s := S4352x2048) ![0, 1664] S256x128.size inb_S4352x2048_S256x128_0_1664).set) (rowsFrom (next i)) := access_below _ _ _ _ (by show 0 + 256 ≤ next i; unfold next; omega)
  have d14 : Disjoint (scK.view.setOn (Rect.unit (s := S4352x2048) ![0, 1792] S256x128.size inb_S4352x2048_S256x128_0_1792).set) (rowsFrom (next i)) := access_below _ _ _ _ (by show 0 + 256 ≤ next i; unfold next; omega)
  have d15 : Disjoint (scK.view.setOn (Rect.unit (s := S4352x2048) ![0, 1920] S256x128.size inb_S4352x2048_S256x128_0_1920).set) (rowsFrom (next i)) := access_below _ _ _ _ (by show 0 + 256 ≤ next i; unfold next; omega)
  have e : next i = 256 * (i 2).val + 256 := by unfold next; omega
  have hc1 := (cond1_iff i).mpr hq
  have hc2 : ¬ k0_cond2 i = 1#1 := fun h => absurd ((cond2_iff i).mp h) (by omega)
  have hc3 := (cond3_iff i).mpr (by omega)
  have hc4 := (cond4_iff i).mpr hq
  rw [state_rest c (by omega), state_mid c (by rw [e]; omega)]
  rw [cc0_fox_attention_eq_skeleton]; unfold cc0_fox_attention_skel
  iintro ⟨⟨Hq0, Hq1, Hh, HK, ⟨⟨%fM, HM⟩, ⟨%fA, HA⟩, ⟨%fS, HS⟩⟩⟩, ⟨H3, H4, H6, H7, ⟨%f8, H8⟩⟩, HW⟩
  have en : next i = 0 + 256 := by rw [e, hq]
  ihave HK := (Entails.of_eq (show keys (F := F) c Finset.univ = keys c (rows 0 ∪ (rows (next i) ∪ rowsFrom (next i + 256))) by rw [← rowsFrom_split, en, ← rowsFrom_split, rowsFrom_zero])) $$ HK
  icases (keys_split c (by rw [← rowsFrom_split, en]; exact rows_disjoint 0)) $$ HK with ⟨⟨%g0, Hd0⟩, HK⟩
  icases (keys_split c (rows_disjoint _)) $$ HK with ⟨⟨%g4, Hd4⟩, HR⟩
  ihave HR := (Apart.intro _) $$ HR
  ihave HM := (Apart.intro _) $$ HM
  ihave HA := (Apart.intro _) $$ HA
  ihave HS := (Apart.intro _) $$ HS
  ihave Hd0 := (Entails.of_eq (show _ = (dst0.view.loc (c : Thread nD τ) ↦[dst0.view.set]{fullShare} g0 : sProp 𝕄) by rw [dst0_set])) $$ Hd0
  ihave Hd4 := (Entails.of_eq (show _ = ((dst4 i hc3).view.loc (c : Thread nD τ) ↦[(dst4 i hc3).view.set]{fullShare} g4 : sProp 𝕄) by rw [dst4_set])) $$ Hd4
  sl_exec
  ihave HM := (Apart.elim _) $$ HM
  ihave HA := (Apart.elim _) $$ HA
  ihave HS := (Apart.elim _) $$ HS
  icases (Entails.of_eq (show _ = keys (F := F) c (Finset.univ \ rowsFrom (next i)) by rw [en, landed_first, ← dst0_set])) $$ [Hd0] with ⟨%XK, HK⟩
  · iexists _; iexact Hd0
  sl_exec
  icases (anyOf c scM _) $$ HM with ⟨%GM, HM⟩
  icases (anyOf c scA _) $$ HA with ⟨%GA, HA⟩
  icases (anyOf c scS _) $$ HS with ⟨%GS, HS⟩
  let L := loopInv c i arg3 harg3 arg4 harg4 arg6 harg6 arg7 harg7 arg8 harg8 X3 X6 XK Set.univ GM GA GS
  let L2 := loopInv2 (F := F) c i arg3 harg3 arg4 harg4 arg6 harg6 arg7 harg7 arg8 harg8 Set.univ
  sl_exec
  sl_step
  ihave HR := (Apart.elim _) $$ HR
  rw [dst4_set]
  isplitl [Hq0 Hq1 Hh HK HR HM HA HS]
  · isplitl [Hq0]; · iexact Hq0
    isplitl [Hq1 Hh]
    · iexists _, _
      isplitl [Hq1]; · iexact Hq1
      iexact Hh
    isplitl [HK]; · iexists _; iexact HK
    isplitl [HR]; · iexact HR
    isplitl [HM]; · iexists _; iexact HM
    isplitl [HA]; · iexists _; iexact HA
    iexists _; iexact HS
  isplitl [H3 H4 H6 H7 H8]
  · isplitl [H3]; · iexact H3
    isplitl [H4]; · iexact H4
    isplitl [H6]; · iexact H6
    isplitl [H7]; · iexact H7
    iexists _; iexact H8
  iexists _; iexact HW

theorem body_mid (hq : 0 < (i 2).val ∧ (i 2).val < 16)
    (X3 : BufTy.Contents (Elt F) arg3.view.ty) (X4 : BufTy.Contents (Elt F) arg4.view.ty) (X6 : BufTy.Contents (Elt F) arg6.view.ty)
    (X7 : BufTy.Contents (Elt F) arg7.view.ty) (XH : BufTy.Contents (Elt F) hbK.view.ty) (W : Waits sig Unit) :
    iprop(state c (256 * (i 2).val) XH ∗ staged c arg3 arg4 arg6 arg7 arg8 X3 X4 X6 X7 ∗ owes (c : Thread nD τ) 0 W)
    ⊢ wp frame (wpE (defs₀ (F := F)) Variants.none c none) Set.univ
        (cc0_fox_attention i arg3 harg3 arg4 harg4 hbK hbK_whole arg6 harg6 arg7 harg7 arg8 harg8 scK scK_whole cc0_scratch1 scM scM_whole scA scA_whole scS scS_whole)
        (fun _ => iprop(state c (next i) XH ∗ staged c arg3 arg4 arg6 arg7 arg8 X3 X4 X6 X7 ∗ ∃ W', owes (c : Thread nD τ) 0 W')) := by
  have d0 : Disjoint (scK.view.setOn (Rect.unit (s := S4352x2048) ![0, 0] S256x128.size inb_S4352x2048_S256x128_0_0).set) (rowsFrom (next i)) := access_below _ _ _ _ (by show 0 + 256 ≤ next i; unfold next; omega)
  have d1 : Disjoint (scK.view.setOn (Rect.unit (s := S4352x2048) ![0, 128] S256x128.size inb_S4352x2048_S256x128_0_128).set) (rowsFrom (next i)) := access_below _ _ _ _ (by show 0 + 256 ≤ next i; unfold next; omega)
  have d2 : Disjoint (scK.view.setOn (Rect.unit (s := S4352x2048) ![0, 256] S256x128.size inb_S4352x2048_S256x128_0_256).set) (rowsFrom (next i)) := access_below _ _ _ _ (by show 0 + 256 ≤ next i; unfold next; omega)
  have d3 : Disjoint (scK.view.setOn (Rect.unit (s := S4352x2048) ![0, 384] S256x128.size inb_S4352x2048_S256x128_0_384).set) (rowsFrom (next i)) := access_below _ _ _ _ (by show 0 + 256 ≤ next i; unfold next; omega)
  have d4 : Disjoint (scK.view.setOn (Rect.unit (s := S4352x2048) ![0, 512] S256x128.size inb_S4352x2048_S256x128_0_512).set) (rowsFrom (next i)) := access_below _ _ _ _ (by show 0 + 256 ≤ next i; unfold next; omega)
  have d5 : Disjoint (scK.view.setOn (Rect.unit (s := S4352x2048) ![0, 640] S256x128.size inb_S4352x2048_S256x128_0_640).set) (rowsFrom (next i)) := access_below _ _ _ _ (by show 0 + 256 ≤ next i; unfold next; omega)
  have d6 : Disjoint (scK.view.setOn (Rect.unit (s := S4352x2048) ![0, 768] S256x128.size inb_S4352x2048_S256x128_0_768).set) (rowsFrom (next i)) := access_below _ _ _ _ (by show 0 + 256 ≤ next i; unfold next; omega)
  have d7 : Disjoint (scK.view.setOn (Rect.unit (s := S4352x2048) ![0, 896] S256x128.size inb_S4352x2048_S256x128_0_896).set) (rowsFrom (next i)) := access_below _ _ _ _ (by show 0 + 256 ≤ next i; unfold next; omega)
  have d8 : Disjoint (scK.view.setOn (Rect.unit (s := S4352x2048) ![0, 1024] S256x128.size inb_S4352x2048_S256x128_0_1024).set) (rowsFrom (next i)) := access_below _ _ _ _ (by show 0 + 256 ≤ next i; unfold next; omega)
  have d9 : Disjoint (scK.view.setOn (Rect.unit (s := S4352x2048) ![0, 1152] S256x128.size inb_S4352x2048_S256x128_0_1152).set) (rowsFrom (next i)) := access_below _ _ _ _ (by show 0 + 256 ≤ next i; unfold next; omega)
  have d10 : Disjoint (scK.view.setOn (Rect.unit (s := S4352x2048) ![0, 1280] S256x128.size inb_S4352x2048_S256x128_0_1280).set) (rowsFrom (next i)) := access_below _ _ _ _ (by show 0 + 256 ≤ next i; unfold next; omega)
  have d11 : Disjoint (scK.view.setOn (Rect.unit (s := S4352x2048) ![0, 1408] S256x128.size inb_S4352x2048_S256x128_0_1408).set) (rowsFrom (next i)) := access_below _ _ _ _ (by show 0 + 256 ≤ next i; unfold next; omega)
  have d12 : Disjoint (scK.view.setOn (Rect.unit (s := S4352x2048) ![0, 1536] S256x128.size inb_S4352x2048_S256x128_0_1536).set) (rowsFrom (next i)) := access_below _ _ _ _ (by show 0 + 256 ≤ next i; unfold next; omega)
  have d13 : Disjoint (scK.view.setOn (Rect.unit (s := S4352x2048) ![0, 1664] S256x128.size inb_S4352x2048_S256x128_0_1664).set) (rowsFrom (next i)) := access_below _ _ _ _ (by show 0 + 256 ≤ next i; unfold next; omega)
  have d14 : Disjoint (scK.view.setOn (Rect.unit (s := S4352x2048) ![0, 1792] S256x128.size inb_S4352x2048_S256x128_0_1792).set) (rowsFrom (next i)) := access_below _ _ _ _ (by show 0 + 256 ≤ next i; unfold next; omega)
  have d15 : Disjoint (scK.view.setOn (Rect.unit (s := S4352x2048) ![0, 1920] S256x128.size inb_S4352x2048_S256x128_0_1920).set) (rowsFrom (next i)) := access_below _ _ _ _ (by show 0 + 256 ≤ next i; unfold next; omega)
  have e : next i = 256 * (i 2).val + 256 := by unfold next; omega
  have hc1 : ¬ k0_cond1 i = 1#1 := fun h => absurd ((cond1_iff i).mp h) (by omega)
  have hc2 := (cond2_iff i).mpr hq.1
  have hc3 := (cond3_iff i).mpr hq.2
  have hc4 : ¬ k0_cond4 i = 1#1 := fun h => absurd ((cond4_iff i).mp h) (by omega)
  rw [state_mid c (by omega), state_mid c (by rw [e]; omega)]
  rw [cc0_fox_attention_eq_skeleton]; unfold cc0_fox_attention_skel
  iintro ⟨⟨Hq0, ⟨%S, %gd, Hq1, Hh⟩, HL, HK, ⟨⟨%fM, HM⟩, ⟨%fA, HA⟩, ⟨%fS, HS⟩⟩⟩, ⟨H3, H4, H6, H7, ⟨%f8, H8⟩⟩, HW⟩
  ihave HK := (Apart.intro _) $$ HK
  ihave HL := (Apart.intro _) $$ HL
  ihave Hh := (Apart.intro _) $$ Hh
  ihave HM := (Apart.intro _) $$ HM
  ihave HA := (Apart.intro _) $$ HA
  ihave HS := (Apart.intro _) $$ HS
  sl_exec
  ihave Hh := (Apart.elim _) $$ Hh
  ihave HL := (Apart.elim _) $$ HL
  ihave HK := (Apart.elim _) $$ HK
  ihave Hh := (hbK_join c S XH) $$ [Hq1_src Hh]
  · isplitl [Hq1_src]; · iexact Hq1_src
    iexact Hh
  ihave HL := (keys_join c (landed_disjoint (256 * (i 2).val))) $$ [HL Hq1_dst]
  · isplitl [HL]; · iexact HL
    iexists _; iexact Hq1_dst
  rw [← landed_split, ← e]
  icases HL with ⟨%XK, HL⟩
  icases (Entails.of_eq (congrArg (keys (F := F) c) (rowsFrom_split (next i)))) $$ HK with HK
  icases (keys_split c (rows_disjoint _)) $$ HK with ⟨⟨%g4, Hd4⟩, HR⟩
  ihave HR := (Apart.intro _) $$ HR
  ihave Hd4 := (Entails.of_eq (show _ = ((dst4 i hc3).view.loc (c : Thread nD τ) ↦[(dst4 i hc3).view.set]{fullShare} g4 : sProp 𝕄) by rw [dst4_set])) $$ Hd4
  ihave HM := (Apart.elim _) $$ HM
  ihave HA := (Apart.elim _) $$ HA
  ihave HS := (Apart.elim _) $$ HS
  sl_exec
  icases (anyOf c scM _) $$ HM with ⟨%GM, HM⟩
  icases (anyOf c scA _) $$ HA with ⟨%GA, HA⟩
  icases (anyOf c scS _) $$ HS with ⟨%GS, HS⟩
  let L := loopInv c i arg3 harg3 arg4 harg4 arg6 harg6 arg7 harg7 arg8 harg8 X3 X6 XK Set.univ GM GA GS
  let L2 := loopInv2 (F := F) c i arg3 harg3 arg4 harg4 arg6 harg6 arg7 harg7 arg8 harg8 Set.univ
  sl_exec
  sl_step
  ihave HR := (Apart.elim _) $$ HR
  rw [dst4_set]
  isplitl [Hq0 Hq1 Hh HL HR HM HA HS]
  · isplitl [Hq0]; · iexact Hq0
    isplitl [Hq1 Hh]
    · iexists _, _
      isplitl [Hq1]; · iexact Hq1
      iexact Hh
    isplitl [HL]; · iexists _; iexact HL
    isplitl [HR]; · iexact HR
    isplitl [HM]; · iexists _; iexact HM
    isplitl [HA]; · iexists _; iexact HA
    iexists _; iexact HS
  isplitl [H3 H4 H6 H7 H8]
  · isplitl [H3]; · iexact H3
    isplitl [H4]; · iexact H4
    isplitl [H6]; · iexact H6
    isplitl [H7]; · iexact H7
    iexists _; iexact H8
  iexists _; iexact HW

theorem body_last (hq : (i 2).val = 16)
    (X3 : BufTy.Contents (Elt F) arg3.view.ty) (X4 : BufTy.Contents (Elt F) arg4.view.ty) (X6 : BufTy.Contents (Elt F) arg6.view.ty)
    (X7 : BufTy.Contents (Elt F) arg7.view.ty) (XH : BufTy.Contents (Elt F) hbK.view.ty) (W : Waits sig Unit) :
    iprop(state c (256 * (i 2).val) XH ∗ staged c arg3 arg4 arg6 arg7 arg8 X3 X4 X6 X7 ∗ owes (c : Thread nD τ) 0 W)
    ⊢ wp frame (wpE (defs₀ (F := F)) Variants.none c none) Set.univ
        (cc0_fox_attention i arg3 harg3 arg4 harg4 hbK hbK_whole arg6 harg6 arg7 harg7 arg8 harg8 scK scK_whole cc0_scratch1 scM scM_whole scA scA_whole scS scS_whole)
        (fun _ => iprop(state c (next i) XH ∗ staged c arg3 arg4 arg6 arg7 arg8 X3 X4 X6 X7 ∗ ∃ W', owes (c : Thread nD τ) 0 W')) := by
  have d0 : Disjoint (scK.view.setOn (Rect.unit (s := S4352x2048) ![0, 0] S256x128.size inb_S4352x2048_S256x128_0_0).set) (rowsFrom (next i)) := access_below _ _ _ _ (by show 0 + 256 ≤ next i; unfold next; omega)
  have d1 : Disjoint (scK.view.setOn (Rect.unit (s := S4352x2048) ![0, 128] S256x128.size inb_S4352x2048_S256x128_0_128).set) (rowsFrom (next i)) := access_below _ _ _ _ (by show 0 + 256 ≤ next i; unfold next; omega)
  have d2 : Disjoint (scK.view.setOn (Rect.unit (s := S4352x2048) ![0, 256] S256x128.size inb_S4352x2048_S256x128_0_256).set) (rowsFrom (next i)) := access_below _ _ _ _ (by show 0 + 256 ≤ next i; unfold next; omega)
  have d3 : Disjoint (scK.view.setOn (Rect.unit (s := S4352x2048) ![0, 384] S256x128.size inb_S4352x2048_S256x128_0_384).set) (rowsFrom (next i)) := access_below _ _ _ _ (by show 0 + 256 ≤ next i; unfold next; omega)
  have d4 : Disjoint (scK.view.setOn (Rect.unit (s := S4352x2048) ![0, 512] S256x128.size inb_S4352x2048_S256x128_0_512).set) (rowsFrom (next i)) := access_below _ _ _ _ (by show 0 + 256 ≤ next i; unfold next; omega)
  have d5 : Disjoint (scK.view.setOn (Rect.unit (s := S4352x2048) ![0, 640] S256x128.size inb_S4352x2048_S256x128_0_640).set) (rowsFrom (next i)) := access_below _ _ _ _ (by show 0 + 256 ≤ next i; unfold next; omega)
  have d6 : Disjoint (scK.view.setOn (Rect.unit (s := S4352x2048) ![0, 768] S256x128.size inb_S4352x2048_S256x128_0_768).set) (rowsFrom (next i)) := access_below _ _ _ _ (by show 0 + 256 ≤ next i; unfold next; omega)
  have d7 : Disjoint (scK.view.setOn (Rect.unit (s := S4352x2048) ![0, 896] S256x128.size inb_S4352x2048_S256x128_0_896).set) (rowsFrom (next i)) := access_below _ _ _ _ (by show 0 + 256 ≤ next i; unfold next; omega)
  have d8 : Disjoint (scK.view.setOn (Rect.unit (s := S4352x2048) ![0, 1024] S256x128.size inb_S4352x2048_S256x128_0_1024).set) (rowsFrom (next i)) := access_below _ _ _ _ (by show 0 + 256 ≤ next i; unfold next; omega)
  have d9 : Disjoint (scK.view.setOn (Rect.unit (s := S4352x2048) ![0, 1152] S256x128.size inb_S4352x2048_S256x128_0_1152).set) (rowsFrom (next i)) := access_below _ _ _ _ (by show 0 + 256 ≤ next i; unfold next; omega)
  have d10 : Disjoint (scK.view.setOn (Rect.unit (s := S4352x2048) ![0, 1280] S256x128.size inb_S4352x2048_S256x128_0_1280).set) (rowsFrom (next i)) := access_below _ _ _ _ (by show 0 + 256 ≤ next i; unfold next; omega)
  have d11 : Disjoint (scK.view.setOn (Rect.unit (s := S4352x2048) ![0, 1408] S256x128.size inb_S4352x2048_S256x128_0_1408).set) (rowsFrom (next i)) := access_below _ _ _ _ (by show 0 + 256 ≤ next i; unfold next; omega)
  have d12 : Disjoint (scK.view.setOn (Rect.unit (s := S4352x2048) ![0, 1536] S256x128.size inb_S4352x2048_S256x128_0_1536).set) (rowsFrom (next i)) := access_below _ _ _ _ (by show 0 + 256 ≤ next i; unfold next; omega)
  have d13 : Disjoint (scK.view.setOn (Rect.unit (s := S4352x2048) ![0, 1664] S256x128.size inb_S4352x2048_S256x128_0_1664).set) (rowsFrom (next i)) := access_below _ _ _ _ (by show 0 + 256 ≤ next i; unfold next; omega)
  have d14 : Disjoint (scK.view.setOn (Rect.unit (s := S4352x2048) ![0, 1792] S256x128.size inb_S4352x2048_S256x128_0_1792).set) (rowsFrom (next i)) := access_below _ _ _ _ (by show 0 + 256 ≤ next i; unfold next; omega)
  have d15 : Disjoint (scK.view.setOn (Rect.unit (s := S4352x2048) ![0, 1920] S256x128.size inb_S4352x2048_S256x128_0_1920).set) (rowsFrom (next i)) := access_below _ _ _ _ (by show 0 + 256 ≤ next i; unfold next; omega)
  have e : next i = 256 * (i 2).val + 256 := by unfold next; omega
  have hc1 : ¬ k0_cond1 i = 1#1 := fun h => absurd ((cond1_iff i).mp h) (by omega)
  have hc2 := (cond2_iff i).mpr (by omega)
  have hc3 : ¬ k0_cond3 i = 1#1 := fun h => absurd ((cond3_iff i).mp h) (by omega)
  have hc4 : ¬ k0_cond4 i = 1#1 := fun h => absurd ((cond4_iff i).mp h) (by omega)
  rw [state_mid c (by omega), state_rest c (by rw [e]; omega)]
  rw [cc0_fox_attention_eq_skeleton]; unfold cc0_fox_attention_skel
  iintro ⟨⟨Hq0, ⟨%S, %gd, Hq1, Hh⟩, HL, HK, ⟨⟨%fM, HM⟩, ⟨%fA, HA⟩, ⟨%fS, HS⟩⟩⟩, ⟨H3, H4, H6, H7, ⟨%f8, H8⟩⟩, HW⟩
  ihave HK := (Apart.intro _) $$ HK
  ihave HL := (Apart.intro _) $$ HL
  ihave Hh := (Apart.intro _) $$ Hh
  ihave HM := (Apart.intro _) $$ HM
  ihave HA := (Apart.intro _) $$ HA
  ihave HS := (Apart.intro _) $$ HS
  sl_exec
  ihave Hh := (Apart.elim _) $$ Hh
  ihave HL := (Apart.elim _) $$ HL
  ihave HK := (Apart.elim _) $$ HK
  ihave Hh := (hbK_join c S XH) $$ [Hq1_src Hh]
  · isplitl [Hq1_src]; · iexact Hq1_src
    iexact Hh
  ihave HL := (keys_join c (landed_disjoint (256 * (i 2).val))) $$ [HL Hq1_dst]
  · isplitl [HL]; · iexact HL
    iexists _; iexact Hq1_dst
  rw [← landed_split, ← e]
  icases HL with ⟨%XK, HL⟩
  ihave HK := (Apart.intro _) $$ HK
  ihave HM := (Apart.elim _) $$ HM
  ihave HA := (Apart.elim _) $$ HA
  ihave HS := (Apart.elim _) $$ HS
  sl_exec
  icases (anyOf c scM _) $$ HM with ⟨%GM, HM⟩
  icases (anyOf c scA _) $$ HA with ⟨%GA, HA⟩
  icases (anyOf c scS _) $$ HS with ⟨%GS, HS⟩
  let L := loopInv c i arg3 harg3 arg4 harg4 arg6 harg6 arg7 harg7 arg8 harg8 X3 X6 XK Set.univ GM GA GS
  let L2 := loopInv2 (F := F) c i arg3 harg3 arg4 harg4 arg6 harg6 arg7 harg7 arg8 harg8 Set.univ
  sl_exec
  sl_step
  rw [show next i = 4352 by omega, rowsFrom_end, Finset.sdiff_empty]
  isplitl [Hq0 Hq1 Hh HL HM HA HS]
  · isplitl [Hq0]; · iexact Hq0
    isplitl [Hq1]; · iexact Hq1
    isplitl [Hh]; · iexact Hh
    isplitl [HL]; · iexists _; iexact HL
    isplitl [HM]; · iexists _; iexact HM
    isplitl [HA]; · iexists _; iexact HA
    iexists _; iexact HS
  isplitl [H3 H4 H6 H7 H8]
  · isplitl [H3]; · iexact H3
    isplitl [H4]; · iexact H4
    isplitl [H6]; · iexact H6
    isplitl [H7]; · iexact H7
    iexists _; iexact H8
  iexists _; iexact HW

end Cert.Kernel6Ideal.Attn

end
-- ==== Proof.AttnFrameIdeal.lean ====
module

public import proofs.«01_k».proof.Proof.AttnBodyIdeal
public import proofs.«01_k».proof.Proof.Gen.Kernel6Ideal.Frame

@[expose] public section

set_option maxRecDepth 16384

noncomputable section

/-! The attention kernel's frame: every point keeps the key copy's state, so the whole launch does. -/

namespace Cert.Kernel6Ideal.Attn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The cells and the array the body copies through -/

abbrev osem0 : Fin 2 → SemLoc sig := fun j => (![SemLoc.dma 9, SemLoc.dma 10] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0) := by
  rw [Pipeline.ownSems0_eq_of_list c osem0 [0, 1] (by decide) (by decide)]; rfl
abbrev H0 : Finset (Ref sig .tc) := {main_arg1}
theorem H0_sub : H0 ⊆ Pipeline.restRefs sig spec0 := by decide
theorem hbmPts0_eq (c : Dev nD) (X : (b : Ref sig .tc) → Buf (Elt F) ((c : Thread nD τ).loc b)) :
    (bigSep H0 fun b => (((c : Thread nD τ).loc b) ↦{fullShare} X b : sProp 𝕄))
      = iprop((((c : Thread nD τ).loc main_arg1) ↦{fullShare} X main_arg1)) := by
  rw [BI.bigSep_eq_bigSepL_of_eq [main_arg1] (by decide) (by decide)]; rfl

/-- The launch's cells, register and buffers, one by one. -/
theorem PhiD0_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch2), ((c : Thread nD τ).loc cc0_scratch2) ↦{fullShare} f)
          ∗ (∃ f : Buf (Elt F) ((c : Thread nD τ).loc cc0_scratch3), ((c : Thread nD τ).loc cc0_scratch3) ↦{fullShare} f)
          ∗ (∃ f : Buf (Elt F) ((c : Thread nD τ).loc cc0_scratch4), ((c : Thread nD τ).loc cc0_scratch4) ↦{fullShare} f))
        ∗ (∃ r, prngReg c r)
        ∗ (semVal ((c : Thread nD τ), SemLoc.dma 9) 0 ∗ semVal ((c : Thread nD τ), SemLoc.dma 10) 0)
        ∗ (((c : Thread nD τ).loc main_arg1) ↦{fullShare} V m c main_arg1)) := by
  rw [Pipeline.ΦD_eq, scopedRest0_eq, ownSems00_eq, hbmPts0_eq]

/-! ## The state at a point of the launch -/

theorem coords_two : ∀ t : Fin grid0.N, (grid0.coords t 2).val = t.val % 17 := by decide +kernel

/-- The state before point `t`: the blocks of a sequence follow one another, and a sequence ends at rest. -/
def stateAt (c : Dev nD) (t : ℕ) : sProp 𝕄 := state c (256 * (t % 17)) (V m c main_arg1)

theorem stateAt_pre (c : Dev nD) (t : Fin grid0.N) :
    stateAt m c t.val = state c (256 * (grid0.coords t 2).val) (V m c main_arg1) := by
  rw [coords_two]; rfl

theorem stateAt_post (c : Dev nD) (t : Fin grid0.N) :
    stateAt m c (t.val + 1) = state c (next (grid0.coords t)) (V m c main_arg1) := by
  unfold stateAt next
  rw [coords_two]
  rcases Nat.lt_or_ge (t.val % 17) 16 with h | h
  · rw [show (t.val + 1) % 17 = t.val % 17 + 1 from by omega]
  · rw [show (t.val + 1) % 17 = 0 from by omega, show t.val % 17 = 16 from by omega, state_rest c (by omega), state_rest c (by omega)]

theorem state_of_PhiD (c : Dev nD) {n : ℕ} (h : ¬ (0 < n ∧ n < 4352)) :
    Pipeline.ΦD osem0 spec0 H0 (V m) c ⊢ (iprop((∃ r, prngReg c r) ∗ state c n (V m c main_arg1)) : sProp 𝕄) := by
  rw [PhiD0_eq, state_rest c h]
  unfold bufs
  rw [show scM.view.set = Finset.univ from View.set_whole _, show scA.view.set = Finset.univ from View.set_whole _,
    show scS.view.set = Finset.univ from View.set_whole _]
  iintro ⟨⟨HK, HM, HA, HS⟩, Hg, ⟨Hq0, Hq1⟩, Hh⟩
  isplitl [Hg]; · iexact Hg
  isplitl [Hq0]; · iexact Hq0
  isplitl [Hq1]; · iexact Hq1
  isplitl [Hh]; · iexact Hh
  isplitl [HK]; · iexact HK
  isplitl [HM]; · iexact HM
  isplitl [HA]; · iexact HA
  iexact HS

theorem PhiD_of_state (c : Dev nD) {n : ℕ} (h : ¬ (0 < n ∧ n < 4352)) :
    (iprop((∃ r, prngReg c r) ∗ state c n (V m c main_arg1)) : sProp 𝕄) ⊢ Pipeline.ΦD osem0 spec0 H0 (V m) c := by
  rw [PhiD0_eq, state_rest c h]
  unfold bufs
  rw [show scM.view.set = Finset.univ from View.set_whole _, show scA.view.set = Finset.univ from View.set_whole _,
    show scS.view.set = Finset.univ from View.set_whole _]
  iintro ⟨Hg, Hq0, Hq1, Hh, HK, HM, HA, HS⟩
  isplitl [HK HM HA HS]
  · isplitl [HK]; · iexact HK
    isplitl [HM]; · iexact HM
    isplitl [HA]; · iexact HA
    iexact HS
  isplitl [Hg]; · iexact Hg
  isplitl [Hq0 Hq1]
  · isplitl [Hq0]; · iexact Hq0
    iexact Hq1
  iexact Hh

/-! ## The proof data: the inputs at their blocks, the result's window unnamed -/

def forgets0 : Fin 5 → Bool := fun w => w == 4

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
  Φ t := iprop((∃ r, prngReg c r) ∗ stateAt m c t.val)
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := rfl
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := rfl
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := rfl
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := rfl
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

/-- Every point: its sequence's first block, a middle one, or the last. -/
theorem body_any (c : Dev nD) (i : grid0.Coords)
    (arg3 : Memref sig .tc .vmem S1x1x2048x256 .bf16) (harg3 : arg3.IsWhole)
    (arg4 : Memref sig .tc .vmem S1x1x2048x256 .bf16) (harg4 : arg4.IsWhole)
    (arg6 : Memref sig .tc .vmem S1x17x1280x256 .bf16) (harg6 : arg6.IsWhole)
    (arg7 : Memref sig .tc .vmem S128x128 .f32) (harg7 : arg7.IsWhole)
    (arg8 : Memref sig .tc .vmem S1x256x1024 .bf16) (harg8 : arg8.IsWhole)
    (X3 : BufTy.Contents (Elt F) arg3.view.ty) (X4 : BufTy.Contents (Elt F) arg4.view.ty) (X6 : BufTy.Contents (Elt F) arg6.view.ty)
    (X7 : BufTy.Contents (Elt F) arg7.view.ty) (XH : BufTy.Contents (Elt F) hbK.view.ty) (W : Waits sig Unit) :
    iprop(state c (256 * (i 2).val) XH ∗ staged c arg3 arg4 arg6 arg7 arg8 X3 X4 X6 X7 ∗ owes (c : Thread nD τ) 0 W)
    ⊢ wp frame (wpE (defs₀ (F := F)) Variants.none c none) Set.univ
        (cc0_fox_attention i arg3 harg3 arg4 harg4 hbK hbK_whole arg6 harg6 arg7 harg7 arg8 harg8 scK scK_whole cc0_scratch1 scM scM_whole scA scA_whole scS scS_whole)
        (fun _ => iprop(state c (next i) XH ∗ staged c arg3 arg4 arg6 arg7 arg8 X3 X4 X6 X7 ∗ ∃ W', owes (c : Thread nD τ) 0 W')) := by
  have h17 : (i 2).val < 17 := (i 2).isLt
  rcases Nat.eq_zero_or_pos (i 2).val with h | h
  · exact body_first c i arg3 harg3 arg4 harg4 arg6 harg6 arg7 harg7 arg8 harg8 h X3 X4 X6 X7 XH W
  rcases Nat.lt_or_ge (i 2).val 16 with h' | h'
  · exact body_mid c i arg3 harg3 arg4 harg4 arg6 harg6 arg7 harg7 arg8 harg8 ⟨h, h'⟩ X3 X4 X6 X7 XH W
  · exact body_last c i arg3 harg3 arg4 harg4 arg6 harg6 arg7 harg7 arg8 harg8 (by omega) X3 X4 X6 X7 XH W

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = iprop((∃ r, prngReg c r) ∗ stateAt m c t.val) from rfl,
    show (dats m 0 c).Φ t.succ = iprop((∃ r, prngReg c r) ∗ stateAt m c (t.val + 1)) from rfl, stateAt_pre m c t, stateAt_post m c t]
  unfold Dat.owesAt Pipeline.owesWithin
  rw [show (dats m 0 c).owed t.castSucc = 0 from rfl, show (dats m 0 c).owed t.succ = 0 from rfl]
  simp only [before0_0, before0_1, before0_2, before0_3, after0_0, after0_1, after0_2, after0_3]
  unfold owns
  iintro ⟨⟨Hg, HΦ⟩, ⟨%W, -, HW⟩, ⟨%d0, %f0, %e0, H0⟩, ⟨%d1, %f1, %e1, H1⟩, ⟨%d2, %f2, %e2, H2⟩, ⟨%d3, %f3, %e3, H3⟩, ⟨%X4, %f4, %e4, H4⟩⟩
  iapply (wp_wand_r _ _ _ (Q := fun _ => iprop(state c (next (grid0.coords t)) (V m c main_arg1)
    ∗ staged c (st0_0 t) (st0_1 t) (st0_2 t) (st0_3 t) (st0_4 t) f0 f1 f2 f3 ∗ ∃ W', owes (c : Thread nD τ) 0 W')))
  isplitl [HΦ HW H0 H1 H2 H3 H4]
  · iapply (body_any c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) f0 f1 f2 f3 (V m c main_arg1) W)
    isplitl [HΦ]; · iexact HΦ
    isplitr [HW]
    · isplitl [H0]; · iexact H0
      isplitl [H1]; · iexact H1
      isplitl [H2]; · iexact H2
      isplitl [H3]; · iexact H3
      iexists f4; iexact H4
    iexact HW
  iintro %v ⟨HΦ, ⟨H0, H1, H2, H3, ⟨%g4, H4⟩⟩, ⟨%W', HW'⟩⟩
  isplitl [Hg HΦ]
  · isplitl [Hg]; · iexact Hg
    iexact HΦ
  isplitl [HW']
  · iexists W'; isplitr; · ipureintro; exact fun _ _ => Or.inl trivial
    iexact HW'
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  iexists _; iexists g4; isplitr
  swap; · iexact H4
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget_shared (Q' := _) cfgs (dats m) (0 : Fin 1) launch₀0 osem0 defs₀ Variants.none forgets0 ownSemFacts0 H0 H0_sub m ρ main
    (hbody := fun c => (body_obligation m c).loose) (hq := fun _ _ _ => rfl)
    (howed := fun _ _ => rfl) (V := V m) (hmain := hmainD m Variants.none) (hA := A_eq m)
    (hin := fun c => state_of_PhiD m c (n := 256 * (0 % 17)) (by omega)) (hout := fun c => PhiD_of_state m c (n := 256 * (272 % 17)) (by omega))

/-- Every weakly fair execution ends, the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      ((congrFun (Pipeline.RDat.ArrAt_in ((dats m 0 c).toRForget forgets0) 1 rfl _) _).mp ((h.1 c).1 1)).trans ((A_eq m c 1).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Kernel6Ideal.Attn

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.RecFrameBits
public import proofs.«01_k».proof.Proof.RecFrameIdeal
public import proofs.«01_k».proof.Proof.Ffn
public import proofs.«01_k».proof.Proof.FfnLast
public import proofs.«01_k».proof.Proof.Merge
public import proofs.«01_k».proof.Proof.InProj
public import proofs.«01_k».proof.Proof.InProjLogits
public import proofs.«01_k».proof.Proof.InProjMid
public import proofs.«01_k».proof.Proof.InProjGates
public import proofs.«01_k».proof.Proof.AttnFrameBits
public import proofs.«01_k».proof.Proof.AttnFrameIdeal
public import Idealize.ShloMosaic.Adequacy
public import Idealize.ShloMosaic.Init

@[expose] public section

noncomputable section

namespace Cert.Proof

open Idealize.ShloMosaic Idealize.SL.Sem Cert.Kernel2

set_option maxHeartbeats 1600000 in
/-- The feed-forward block equals its reference. -/
theorem algebraic2 : Cert.algebraic_Kernel2Ideal_Reference2Ideal := by
  pair_intro
  · run_from Cert.Kernel2Ideal.Gen.run_main m g
  · hlo_run
    exact (Cert.Kernel2Ideal.Ffn.final m c).symm

/-- The reference terminates and leaves its arguments as they were. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

set_option maxHeartbeats 1600000 in
/-- The last feed-forward block with the final norm equals its reference. -/
theorem algebraic3 : Cert.algebraic_Kernel3Ideal_Reference3Ideal := by
  pair_intro
  · run_from Cert.Kernel3Ideal.Gen.run_main m g
  · hlo_run
    exact (Cert.Kernel3Ideal.FfnLast.final m c).symm

/-- The reference terminates and leaves its arguments as they were. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

set_option maxHeartbeats 1600000 in
/-- The gated merge of the three branches equals its reference. -/
theorem algebraic4 : Cert.algebraic_Kernel4Ideal_Reference4Ideal := by
  pair_intro
  · run_from Cert.Kernel4Ideal.Gen.run_main m g
  · hlo_run
    exact (Cert.Kernel4Ideal.Merge.final m c).symm

/-- The reference terminates and leaves its arguments as they were. -/
theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

set_option maxHeartbeats 3200000 in
/-- The six plain results of the input projection equal its reference. -/
theorem algebraic5 : Cert.algebraic_Kernel5Ideal_Reference5Ideal := by
  pair_intro
  · run_from Cert.Kernel5Ideal.Gen.run_main m g
    · exact Cert.Kernel5Ideal.Gen.V_main_arg0 m c
    · exact Cert.Kernel5Ideal.Gen.V_main_arg1 m c
    · exact Cert.Kernel5Ideal.Gen.V_main_arg2 m c
    · exact Cert.Kernel5Ideal.Gen.V_main_arg3 m c
  · hlo_run
    · exact (Cert.Kernel5Ideal.InProj.final9 m c).symm
    · exact (Cert.Kernel5Ideal.InProj.final10 m c).symm
    · exact (Cert.Kernel5Ideal.InProj.final11 m c).symm
    · exact (Cert.Kernel5Ideal.InProj.final12 m c).symm
    · exact (Cert.Kernel5Ideal.InProj.final13 m c).symm
    · exact (Cert.Kernel5Ideal.InProj.final14 m c).symm

/-- The reference terminates and leaves its arguments as they were. -/
theorem frame_reference5 : Cert.quiescent_Reference5Ideal := fun m g _ =>
  (θ_run Cert.Reference5Ideal.defs _ _).mono (fun r h => ⟨fun c => (h c).2.2.2.2.2.2, sem_eq_zero_of_no_sems (by decide) r.2⟩)
    (Cert.Reference5Ideal.Value.run m g)

/-- The attention's reference terminates and leaves its arguments as they were. -/
theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

/-- The mask's constant stands for minus infinity, as the rule says. -/
theorem preserves6 : Cert.preserves_Kernel6_Kernel6Ideal :=
  IdealRules.named_const.statement _ _ _ _ _ rfl

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts,
  (fun m ρ _ => Cert.Kernel2.Gen.frame m ρ), (fun m ρ _ => Cert.Kernel2Ideal.Gen.frame m ρ), frame_reference2, (fun m ρ _ => Cert.Kernel3.Gen.frame m ρ), (fun m ρ _ => Cert.Kernel3Ideal.Gen.frame m ρ), frame_reference3, (fun m ρ _ => Cert.Kernel4.Gen.frame m ρ), (fun m ρ _ => Cert.Kernel4Ideal.Gen.frame m ρ), frame_reference4, (fun m ρ _ => Cert.Kernel5.Gen.frame m ρ), (fun m ρ _ => Cert.Kernel5Ideal.Gen.frame m ρ), frame_reference5, (fun m ρ _ => Cert.Kernel6.Attn.frame m ρ), (fun m ρ _ => Cert.Kernel6Ideal.Attn.frame m ρ), frame_reference6, (fun m ρ _ => Cert.Kernel7.Gen.frame m ρ), (fun m ρ _ => Cert.Kernel7Ideal.Gen.frame m ρ),
  trivial, algebraic2, trivial, algebraic3, trivial, algebraic4, trivial, algebraic5, preserves6, trivial⟩

end Cert.Proof

end
